-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1024, 512]⟩ ⟨2, ![2048, 512]⟩ (Layout.meshBlock [2, 2, 4] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S512x512 : Shape := ⟨2, ![512, 512]⟩
abbrev S9 : Shape := ⟨1, ![9]⟩
abbrev S8 : Shape := ⟨1, ![8]⟩
abbrev S_ : Shape := ⟨0, ![]⟩
abbrev S1 : Shape := ⟨1, ![1]⟩
abbrev S64x512 : Shape := ⟨2, ![64, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S2048x512, .bf16⟩
  | .local _ .vmem, ⟨0, _⟩ => ⟨S1024x512, .f32⟩
  | .local _ .vmem, ⟨1, _⟩ => ⟨S1024x512, .bf16⟩
  | .local _ .vmem, ⟨2, _⟩ => ⟨S512x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v23 : BitVec 32 := Scalar.muli v10 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) (c0_i32_17 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v27 : BitVec 32 := Scalar.muli v5 c512_i32
  let v30 : BitVec 32 := Scalar.addi v27 c0_i32_17
  let c0_i32_19 : BitVec 32 := 0#32
  ![v30.toNat, 0]
def k0_off2 (d0 : Dev nD) : Fin 2 → Nat :=
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_15 v5
  let c512_i32_16 : BitVec 32 := 512#32
  let v29 : BitVec 32 := Scalar.muli v28 c512_i32_16
  let c0_i32_39 : BitVec 32 := 0#32
  ![v29.toNat, 0]
def k0_off3 (d0 : Dev nD) (c0_i32_42 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v27 : BitVec 32 := Scalar.muli v5 c512_i32
  let v74 : BitVec 32 := Scalar.addi v27 c0_i32_42
  let v79 : Index := Scalar.indexCast v74
  let c0 : Index := 0#32
  ![v79.toNat, 0]
def k0_dev3 (d0 : Dev nD) : Nat :=
  let c0_i32_50 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_49 : BitVec 32 := 8#32
  let v86 : BitVec 32 := Scalar.muli v9 c8_i32_49
  let v87 : BitVec 32 := Scalar.addi c0_i32_50 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v88 : BitVec 32 := Scalar.muli v5 c4_i32_51
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v90 : BitVec 32 := Scalar.muli v8 c1_i32_52
  let v91 : BitVec 32 := Scalar.addi v89 v90
  v91.toNat
def k0_dev4 (d0 : Dev nD) : Nat :=
  let c0_i32_65 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_64 : BitVec 32 := 8#32
  let v110 : BitVec 32 := Scalar.muli v9 c8_i32_64
  let v111 : BitVec 32 := Scalar.addi c0_i32_65 v110
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v112 : BitVec 32 := Scalar.muli v5 c4_i32_66
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v114 : BitVec 32 := Scalar.muli v8 c1_i32_67
  let v115 : BitVec 32 := Scalar.addi v113 v114
  v115.toNat
def k0_dev5 (d0 : Dev nD) : Nat :=
  let c0_i32_80 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_79 : BitVec 32 := 8#32
  let v134 : BitVec 32 := Scalar.muli v9 c8_i32_79
  let v135 : BitVec 32 := Scalar.addi c0_i32_80 v134
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v136 : BitVec 32 := Scalar.muli v5 c4_i32_81
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v138 : BitVec 32 := Scalar.muli v8 c1_i32_82
  let v139 : BitVec 32 := Scalar.addi v137 v138
  v139.toNat
def k0_dev6 (d0 : Dev nD) : Nat :=
  let c0_i32_95 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_94 : BitVec 32 := 8#32
  let v158 : BitVec 32 := Scalar.muli v9 c8_i32_94
  let v159 : BitVec 32 := Scalar.addi c0_i32_95 v158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_96 : BitVec 32 := 4#32
  let v160 : BitVec 32 := Scalar.muli v5 c4_i32_96
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v162 : BitVec 32 := Scalar.muli v8 c1_i32_97
  let v163 : BitVec 32 := Scalar.addi v161 v162
  v163.toNat
def k0_dev7 (d0 : Dev nD) : Nat :=
  let c0_i32_110 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_109 : BitVec 32 := 8#32
  let v182 : BitVec 32 := Scalar.muli v9 c8_i32_109
  let v183 : BitVec 32 := Scalar.addi c0_i32_110 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v184 : BitVec 32 := Scalar.muli v5 c4_i32_111
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v186 : BitVec 32 := Scalar.muli v8 c1_i32_112
  let v187 : BitVec 32 := Scalar.addi v185 v186
  v187.toNat
def k0_dev8 (d0 : Dev nD) : Nat :=
  let c0_i32_125 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_124 : BitVec 32 := 8#32
  let v206 : BitVec 32 := Scalar.muli v9 c8_i32_124
  let v207 : BitVec 32 := Scalar.addi c0_i32_125 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v208 : BitVec 32 := Scalar.muli v5 c4_i32_126
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v210 : BitVec 32 := Scalar.muli v8 c1_i32_127
  let v211 : BitVec 32 := Scalar.addi v209 v210
  v211.toNat
def k0_dev9 (d0 : Dev nD) : Nat :=
  let c0_i32_140 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_139 : BitVec 32 := 8#32
  let v230 : BitVec 32 := Scalar.muli v9 c8_i32_139
  let v231 : BitVec 32 := Scalar.addi c0_i32_140 v230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v232 : BitVec 32 := Scalar.muli v5 c4_i32_141
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v234 : BitVec 32 := Scalar.muli v8 c1_i32_142
  let v235 : BitVec 32 := Scalar.addi v233 v234
  v235.toNat
def k0_dev10 (d0 : Dev nD) : Nat :=
  let c0_i32_155 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_154 : BitVec 32 := 8#32
  let v254 : BitVec 32 := Scalar.muli v9 c8_i32_154
  let v255 : BitVec 32 := Scalar.addi c0_i32_155 v254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_156 : BitVec 32 := 4#32
  let v256 : BitVec 32 := Scalar.muli v5 c4_i32_156
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v258 : BitVec 32 := Scalar.muli v8 c1_i32_157
  let v259 : BitVec 32 := Scalar.addi v257 v258
  v259.toNat
def k0_off4 (d0 : Dev nD) : Fin 2 → Nat :=
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v28 : BitVec 32 := Scalar.subi c1_i32_15 v5
  let c512_i32_16 : BitVec 32 := 512#32
  let v29 : BitVec 32 := Scalar.muli v28 c512_i32_16
  let v270 : Index := Scalar.indexCast v29
  let c0_164 : Index := 0#32
  ![v270.toNat, 0]
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let c0_i32_167 : BitVec 32 := 0#32
  ![v11.toNat, 0]
def k0_off6 (d0 : Dev nD) (c0_i32_169 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c1024_i32_5 : BitVec 32 := 1024#32
  let v13 : BitVec 32 := Scalar.muli v12 c1024_i32_5
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_168 : BitVec 32 := 512#32
  let v280 : BitVec 32 := Scalar.muli v5 c512_i32_168
  let v281 : BitVec 32 := Scalar.addi v13 v280
  let v282 : BitVec 32 := Scalar.addi v281 c0_i32_169
  let c0_i32_186 : BitVec 32 := 0#32
  ![v282.toNat, 0]
def k0_dev11 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v293 : BitVec 32 := Scalar.muli v2 c8_i32_182
  let v294 : BitVec 32 := Scalar.addi c0_i32_183 v293
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_184 : BitVec 32 := 4#32
  let v295 : BitVec 32 := Scalar.muli v10 c4_i32_184
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v297 : BitVec 32 := Scalar.muli v8 c1_i32_185
  let v298 : BitVec 32 := Scalar.addi v296 v297
  v298.toNat
def k0_dev12 (d0 : Dev nD) : Nat :=
  let c0_i32_207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_206 : BitVec 32 := 8#32
  let v320 : BitVec 32 := Scalar.muli v2 c8_i32_206
  let v321 : BitVec 32 := Scalar.addi c0_i32_207 v320
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_208 : BitVec 32 := 4#32
  let v322 : BitVec 32 := Scalar.muli v10 c4_i32_208
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v324 : BitVec 32 := Scalar.muli v8 c1_i32_209
  let v325 : BitVec 32 := Scalar.addi v323 v324
  v325.toNat
def k0_dev13 (d0 : Dev nD) : Nat :=
  let c0_i32_231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_230 : BitVec 32 := 8#32
  let v347 : BitVec 32 := Scalar.muli v2 c8_i32_230
  let v348 : BitVec 32 := Scalar.addi c0_i32_231 v347
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_232 : BitVec 32 := 4#32
  let v349 : BitVec 32 := Scalar.muli v10 c4_i32_232
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v351 : BitVec 32 := Scalar.muli v8 c1_i32_233
  let v352 : BitVec 32 := Scalar.addi v350 v351
  v352.toNat
def k0_dev14 (d0 : Dev nD) : Nat :=
  let c0_i32_255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254 : BitVec 32 := 8#32
  let v374 : BitVec 32 := Scalar.muli v2 c8_i32_254
  let v375 : BitVec 32 := Scalar.addi c0_i32_255 v374
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_256 : BitVec 32 := 4#32
  let v376 : BitVec 32 := Scalar.muli v10 c4_i32_256
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v378 : BitVec 32 := Scalar.muli v8 c1_i32_257
  let v379 : BitVec 32 := Scalar.addi v377 v378
  v379.toNat
def k0_dev15 (d0 : Dev nD) : Nat :=
  let c0_i32_279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_278 : BitVec 32 := 8#32
  let v401 : BitVec 32 := Scalar.muli v2 c8_i32_278
  let v402 : BitVec 32 := Scalar.addi c0_i32_279 v401
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_280 : BitVec 32 := 4#32
  let v403 : BitVec 32 := Scalar.muli v10 c4_i32_280
  let v404 : BitVec 32 := Scalar.addi v402 v403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v405 : BitVec 32 := Scalar.muli v8 c1_i32_281
  let v406 : BitVec 32 := Scalar.addi v404 v405
  v406.toNat
def k0_dev16 (d0 : Dev nD) : Nat :=
  let c0_i32_303 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_302 : BitVec 32 := 8#32
  let v428 : BitVec 32 := Scalar.muli v2 c8_i32_302
  let v429 : BitVec 32 := Scalar.addi c0_i32_303 v428
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_304 : BitVec 32 := 4#32
  let v430 : BitVec 32 := Scalar.muli v10 c4_i32_304
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v432 : BitVec 32 := Scalar.muli v8 c1_i32_305
  let v433 : BitVec 32 := Scalar.addi v431 v432
  v433.toNat
def k0_dev17 (d0 : Dev nD) : Nat :=
  let c0_i32_327 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_326 : BitVec 32 := 8#32
  let v455 : BitVec 32 := Scalar.muli v2 c8_i32_326
  let v456 : BitVec 32 := Scalar.addi c0_i32_327 v455
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_328 : BitVec 32 := 4#32
  let v457 : BitVec 32 := Scalar.muli v10 c4_i32_328
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_329 : BitVec 32 := 1#32
  let v459 : BitVec 32 := Scalar.muli v8 c1_i32_329
  let v460 : BitVec 32 := Scalar.addi v458 v459
  v460.toNat
def k0_dev18 (d0 : Dev nD) : Nat :=
  let c0_i32_351 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_350 : BitVec 32 := 8#32
  let v482 : BitVec 32 := Scalar.muli v2 c8_i32_350
  let v483 : BitVec 32 := Scalar.addi c0_i32_351 v482
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_352 : BitVec 32 := 4#32
  let v484 : BitVec 32 := Scalar.muli v10 c4_i32_352
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v486 : BitVec 32 := Scalar.muli v8 c1_i32_353
  let v487 : BitVec 32 := Scalar.addi v485 v486
  v487.toNat
def k0_off7 (d0 : Dev nD) (c0_i32_363 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c1024_i32_5 : BitVec 32 := 1024#32
  let v13 : BitVec 32 := Scalar.muli v12 c1024_i32_5
  let c1_i32_361 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v498 : BitVec 32 := Scalar.subi c1_i32_361 v5
  let c512_i32_362 : BitVec 32 := 512#32
  let v499 : BitVec 32 := Scalar.muli v498 c512_i32_362
  let v500 : BitVec 32 := Scalar.addi v13 v499
  let v501 : BitVec 32 := Scalar.addi v500 c0_i32_363
  let c0_i32_370 : BitVec 32 := 0#32
  ![v501.toNat, 0]
-- ==== Reference.lean ====
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Steps.lean ====
/-
The kernel body read as its phases.

The printed body is one flat list of about 140 operations: the two neighbour signals, nine loads of the
argument into VMEM, the barrier wait, then eight-fold phases whose members differ in the chunk number alone.
Here every operation is named once at a symbolic chunk `k : Fin 8`, an eight-fold phase is `each8`, and
`body_eq` says that the printed body is the sequence of the phases.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Gather

open Idealize.ShloMosaic Idealize.ShloMosaic.TcCoe
open Idealize.SL Idealize.SL.Sem
open Cert.KernelIdeal.Gen

variable {F : FTy → Type} [FloatOps F]

/-! ## The buffers and the semaphores -/

/-- The argument's block, in HBM. -/
abbrev xM : Memref sig .tc .hbm S1024x512 .f32 := Memref.whole main_arg0
/-- The result, in HBM. -/
abbrev oM : Memref sig .tc .hbm S2048x512 .bf16 := Memref.whole main_v1
/-- The argument's block in VMEM. -/
abbrev xvM : Memref sig .tc .vmem S1024x512 .f32 := Memref.whole cc0_scratch0
/-- The block cast, in VMEM. -/
abbrev svM : Memref sig .tc .vmem S1024x512 .bf16 := Memref.whole cc0_scratch1
/-- The rows received from the x neighbour, in VMEM. -/
abbrev rvM : Memref sig .tc .vmem S512x512 .bf16 := Memref.whole cc0_scratch2

/-- Each of nine semaphores is in its array. -/
theorem inb9 : ∀ k : Fin 9, ∀ a, (![k.val] : Fin 1 → Nat) a + S1.size a ≤ S9.size a := by decide
/-- Each of eight semaphores is in its array. -/
theorem inb8 : ∀ k : Fin 8, ∀ a, (![k.val] : Fin 1 → Nat) a + S1.size a ≤ S8.size a := by decide
/-- Each chunk of the received rows is in its buffer. -/
theorem inbR : ∀ k : Fin 8, ∀ a, (![64 * k.val, 0] : Fin 2 → Nat) a + S64x512.size a ≤ S512x512.size a := by decide
/-- Each chunk of the received rows is whole words. -/
theorem wordsR : ∀ k : Fin 8, (Rect.unit (s := S512x512) ![64 * k.val, 0] S64x512.size (inbR k)).WholeWords (EltTy.packing .bf16) := by
  decide +kernel

/-- The semaphores of the loads into VMEM. -/
abbrev inS (k : Fin 9) : DmaSem sig := ((cc0_scratch3.slice (Rect.unit (s := S9) ![k.val] S1.size (inb9 k))).squeeze S_ squeezes_S1_S_).sem
/-- The semaphores of the stores to the result. -/
abbrev stS (k : Fin 9) : DmaSem sig := ((cc0_scratch4.slice (Rect.unit (s := S9) ![k.val] S1.size (inb9 k))).squeeze S_ squeezes_S1_S_).sem
/-- The send semaphores towards the x neighbour. -/
abbrev s1S (k : Fin 8) : DmaSem sig := ((cc0_scratch5.slice (Rect.unit (s := S8) ![k.val] S1.size (inb8 k))).squeeze S_ squeezes_S1_S_).sem
/-- The receive semaphores from the x neighbour. -/
abbrev r1S (k : Fin 8) : DmaSem sig := ((cc0_scratch6.slice (Rect.unit (s := S8) ![k.val] S1.size (inb8 k))).squeeze S_ squeezes_S1_S_).sem
/-- The send semaphores towards the y neighbour. -/
abbrev s2S (k : Fin 8) : DmaSem sig := ((cc0_scratch7.slice (Rect.unit (s := S8) ![k.val] S1.size (inb8 k))).squeeze S_ squeezes_S1_S_).sem
/-- The receive semaphores from the y neighbour. -/
abbrev r2S (k : Fin 8) : DmaSem sig := ((cc0_scratch8.slice (Rect.unit (s := S8) ![k.val] S1.size (inb8 k))).squeeze S_ squeezes_S1_S_).sem

/-- The runtime's barrier semaphore. -/
abbrev barS : Sem sig := (SemArray.scalar (sig.barrier 0 rfl) : Sems sig S_).sem

/-! ## The row chunks -/

/-- Chunk `k`'s word: its first row. -/
abbrev wd (k : Fin 8) : BitVec 32 := BitVec.ofNat 32 (64 * k.val)

/-- Chunk `k` of the half a device sends, of the argument. -/
abbrev xC (d : Dev nD) (k : Fin 8) : Memref sig .tc .hbm S64x512 .f32 := xM.slice (Rect.unit (s := S1024x512) (k0_off1 d (wd k)) S64x512.size (k0_off1_inb d k)) (fun _ => rfl)
/-- Chunk `k` of the half a device sends, in VMEM. -/
abbrev xvC (d : Dev nD) (k : Fin 8) : Memref sig .tc .vmem S64x512 .f32 := xvM.slice (Rect.unit (s := S1024x512) (k0_off1 d (wd k)) S64x512.size (k0_off1_inb d k)) (fun _ => rfl)
/-- Chunk `k` of the half a device sends, cast. -/
abbrev svC (d : Dev nD) (k : Fin 8) : Memref sig .tc .vmem S64x512 .bf16 := svM.slice (Rect.unit (s := S1024x512) (k0_off1 d (wd k)) S64x512.size (k0_off1_inb d k)) (fun _ => rfl)
/-- The half a device keeps, of the argument. -/
abbrev xK (d : Dev nD) : Memref sig .tc .hbm S512x512 .f32 := xM.slice (Rect.unit (s := S1024x512) (k0_off2 d) S512x512.size (k0_off2_inb d)) (fun _ => rfl)
/-- The half a device keeps, in VMEM. -/
abbrev xvK (d : Dev nD) : Memref sig .tc .vmem S512x512 .f32 := xvM.slice (Rect.unit (s := S1024x512) (k0_off2 d) S512x512.size (k0_off2_inb d)) (fun _ => rfl)
/-- Chunk `k` of the rows received. -/
abbrev rvC (k : Fin 8) : Memref sig .tc .vmem S64x512 .bf16 := rvM.slice (Rect.unit (s := S512x512) ![64 * k.val, 0] S64x512.size (inbR k)) (fun _ => rfl)
/-- A device's own rows of the result. -/
abbrev oOwn (d : Dev nD) : Memref sig .tc .hbm S1024x512 .bf16 := oM.slice (Rect.unit (s := S2048x512) (k0_off5 d) S1024x512.size (k0_off5_inb d)) (fun _ => rfl)
/-- Chunk `k` of the result's rows that come from the x neighbour. -/
abbrev oG1 (d : Dev nD) (k : Fin 8) : Memref sig .tc .hbm S64x512 .bf16 := oM.slice (Rect.unit (s := S2048x512) (k0_off6 d (wd k)) S64x512.size (k0_off6_inb d k)) (fun _ => rfl)
/-- Chunk `k` of the result's rows that come by the y neighbour. -/
abbrev oG2 (d : Dev nD) (k : Fin 8) : Memref sig .tc .hbm S64x512 .bf16 := oM.slice (Rect.unit (s := S2048x512) (k0_off7 d (wd k)) S64x512.size (k0_off7_inb d k)) (fun _ => rfl)
/-- The rectangle chunk `k`'s load and store go through. -/
abbrev rC (d : Dev nD) (k : Fin 8) : Rect S1024x512 := Rect.unit (s := S1024x512) (k0_off3 d (wd k)) S64x512.size (k0_off3_inb d k)
/-- The rectangle the kept half's load and store go through. -/
abbrev rK (d : Dev nD) : Rect S1024x512 := Rect.unit (s := S1024x512) (k0_off4 d) S512x512.size (k0_off4_inb d)

/-- A chunk of the cast block is whole words. -/
theorem svW (d : Dev nD) (k : Fin 8) : (svC d k).view.WordExact := (Memref.isWhole_whole cc0_scratch1).wordExact_slice rfl _ (k0_off1_wordsbf16 d k)
/-- A received chunk is whole words. -/
theorem rvW (k : Fin 8) : (rvC k).view.WordExact := (Memref.isWhole_whole cc0_scratch2).wordExact_slice rfl _ (wordsR k)
/-- The own rows of the result are whole words. -/
theorem oOwnW (d : Dev nD) : (oOwn d).view.WordExact := (Memref.isWhole_whole main_v1).wordExact_slice rfl _ (k0_off5_wordsbf16 d)
/-- A chunk of the result's rows from the x neighbour is whole words. -/
theorem oG1W (d : Dev nD) (k : Fin 8) : (oG1 d k).view.WordExact := (Memref.isWhole_whole main_v1).wordExact_slice rfl _ (k0_off6_wordsbf16 d k)
/-- A chunk of the result's rows by the y neighbour is whole words. -/
theorem oG2W (d : Dev nD) (k : Fin 8) : (oG2 d k).view.WordExact := (Memref.isWhole_whole main_v1).wordExact_slice rfl _ (k0_off7_wordsbf16 d k)

/-! ## The neighbours the program computes -/

/-- The x neighbour, as the program computes it. -/
abbrev nx (d : Dev nD) : Dev nD := ⟨k0_dev1 d, k0_dev1_lt d⟩
/-- The y neighbour, as the program computes it. -/
abbrev ny (d : Dev nD) : Dev nD := ⟨k0_dev2 d, k0_dev2_lt d⟩
/-- The x neighbour a chunk is sent to. -/
abbrev nxC (d : Dev nD) : Dev nD := ⟨k0_dev3 d, k0_dev3_lt d⟩
/-- The y neighbour a chunk is forwarded to. -/
abbrev nyC (d : Dev nD) : Dev nD := ⟨k0_dev11 d, k0_dev11_lt d⟩

/-! ## The operations -/

/-- A program of the kernel's. -/
abbrev P (F : FTy → Type) : Type 1 := Prog (TpuEff nD τ sig (Elt F) Λ₀ .tc) PUnit

/-- Load chunk `k` of the sent half into VMEM: start. -/
def ldStart (d : Dev nD) (k : Fin 8) : P F :=
  Prog.lift (.enqueueDma (xC d k) (.here (xvC d k)) (.dma (inS k.castSucc)) (View.wordExact_bits rfl) (View.wordExact_bits rfl) ⟨Or.inl rfl, trivial⟩)
/-- Load the kept half into VMEM: start. -/
def ldKeep (d : Dev nD) : P F :=
  Prog.lift (.enqueueDma (xK d) (.here (xvK d)) (.dma (inS 8)) (View.wordExact_bits rfl) (View.wordExact_bits rfl) ⟨Or.inl rfl, trivial⟩)

/-- Chunk `k` of the sent half: wait for it, cast it, and send it to the x neighbour. -/
def sendX (d : Dev nD) (k : Fin 8) : P F := do
  Prog.lift (.waitDma2 (inS k.castSucc) (xC d k) (xvC d k) (View.wordExact_bits rfl) (View.wordExact_bits rfl))
  let v : Vec F S64x512 .f32 ← Prog.lift (.load xvM (rC d k).toLoadRect (View.loadsAt_vmem h_S64x512))
  let _w : Vec F S64x512 .bf16 ← Prog.lift (.load svM (rC d k).toLoadRect (View.loadsAt_vmem h_S64x512))
  Prog.lift (.store svM (rC d k) (k0_pay1 v) Finset.univ (View.stores_vmem h_S64x512 ((Memref.isWhole_whole cc0_scratch1).storeExact_slice rfl _ (k0_off3_packedbf16 d k)) (fun _ => rfl)) (.inl rfl))
  Prog.lift (.enqueueDma (svC d k) (.remote (Dev.tc (nxC d)) (rvC k) (.dma (s1S k))) (.dma (r1S k)) (svW d k) (rvW k) ⟨⟨rfl, Or.inl rfl⟩, trivial⟩)

/-- The kept half: wait for it, cast it, and start the store of the whole block to the device's own rows. -/
def keepOwn (d : Dev nD) : P F := do
  Prog.lift (.waitDma2 (inS 8) (xK d) (xvK d) (View.wordExact_bits rfl) (View.wordExact_bits rfl))
  let v : Vec F S512x512 .f32 ← Prog.lift (.load xvM (rK d).toLoadRect (View.loadsAt_vmem h_S512x512))
  let _w : Vec F S512x512 .bf16 ← Prog.lift (.load svM (rK d).toLoadRect (View.loadsAt_vmem h_S512x512))
  Prog.lift (.store svM (rK d) (k0_pay9 v) Finset.univ (View.stores_vmem h_S512x512 ((Memref.isWhole_whole cc0_scratch1).storeExact_slice rfl _ (k0_off4_packedbf16 d)) (fun _ => rfl)) (.inl rfl))
  Prog.lift (.enqueueDma svM (.here (oOwn d)) (.dma (stS 8)) (Memref.isWhole_whole cc0_scratch1).wordExact (oOwnW d) ⟨Or.inl rfl, trivial⟩)

/-- Chunk `k` received: wait for it, forward it to the y neighbour, and start its store to the result. -/
def fwdY (d : Dev nD) (k : Fin 8) : P F := do
  Prog.lift (.waitDma2 (r1S k) (rvC k) (rvC k) (rvW k) (rvW k))
  Prog.lift (.enqueueDma (rvC k) (.remote (Dev.tc (nyC d)) (oG1 d k) (.dma (s2S k))) (.dma (r2S k)) (rvW k) (oG1W d k) ⟨⟨rfl, Or.inl rfl⟩, trivial⟩)
  Prog.lift (.enqueueDma (rvC k) (.here (oG1 d k)) (.dma (stS k.castSucc)) (rvW k) (oG1W d k) ⟨Or.inl rfl, trivial⟩)

/-- Wait for chunk `k` from the y neighbour. -/
def waitY (d : Dev nD) (k : Fin 8) : P F := Prog.lift (.waitDma2 (r2S k) (oG2 d k) (oG2 d k) (oG2W d k) (oG2W d k))
/-- Wait for the store of the device's own rows. -/
def waitOwn (d : Dev nD) : P F := Prog.lift (.waitDma2 (stS 8) svM (oOwn d) (Memref.isWhole_whole cc0_scratch1).wordExact (oOwnW d))
/-- Wait for chunk `k`'s store. -/
def waitSt (d : Dev nD) (k : Fin 8) : P F := Prog.lift (.waitDma2 (stS k.castSucc) (rvC k) (oG1 d k) (rvW k) (oG1W d k))
/-- Wait until chunk `k` has left for the x neighbour. -/
def waitSent1 (d : Dev nD) (k : Fin 8) : P F := Prog.lift (.waitDma2 (s1S k) (rvC k) (svC d k) (rvW k) (svW d k))
/-- Wait until chunk `k` has left for the y neighbour. -/
def waitSent2 (d : Dev nD) (k : Fin 8) : P F := Prog.lift (.waitDma2 (s2S k) (oG1 d k) (rvC k) (oG1W d k) (rvW k))

/-! ## The phases -/

/-- A phase: one program per chunk, in order. -/
def each8 (f : Fin 8 → P F) : P F := do
  f 0; f 1; f 2; f 3; f 4; f 5; f 6; f 7

/-- What a device does once it knows its number `d`. -/
def phases (d : Dev nD) : P F := do
  semSignalWord (nx d) barS 1#32
  semSignalWord (ny d) barS 1#32
  each8 (ldStart d)
  ldKeep d
  semWaitWord barS 2#32
  each8 (sendX d)
  keepOwn d
  each8 (fwdY d)
  each8 (waitY d)
  waitOwn d
  each8 (waitSt d)
  each8 (waitSent1 d)
  each8 (waitSent2 d)

set_option maxRecDepth 65536 in
set_option maxHeartbeats 4000000 in
/-- The printed body is: read the device's number, then the phases. -/
theorem body_eq : (bodyAt0 (F := F) t0_0) = Prog.op .deviceId (fun d => phases d) := by
  rfl

end Cert.KernelIdeal.Gather

end
-- ==== Proof.Contents.lean ====
/-
What every buffer holds, and which rows each chunk is.

The devices form a mesh: device `d` has x coordinate `d / 8`, y coordinate `d / 4 % 2` and z coordinate `d % 4`.
`xp` and `yp` are the neighbours along x and y. Every chunk the kernel touches is a band of whole rows; here each is
computed in closed form, and every buffer is given the contents it has once the kernel has filled it. A transfer's
chunk is then read off the whole buffer's contents: the last section says, for each transfer, that the source's
contents seen through the source chunk are the destination's contents seen through the destination chunk.
-/
module

public import proofs.«01_k».proof.Proof.Steps
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.ValueIdx

@[expose] public section

noncomputable section

namespace Cert.KernelIdeal.Gather

open Idealize.ShloMosaic Idealize.ShloMosaic.TcCoe
open Idealize.SL Idealize.SL.Sem
open Cert.KernelIdeal.Gen

variable {F : FTy → Type} [FloatOps F]

/-! ## The neighbours -/

/-- The neighbour along x. -/
def xp (d : Dev nD) : Dev nD := nx d
/-- The neighbour along y. -/
def yp (d : Dev nD) : Dev nD := ny d

/-- The first signal goes to the x neighbour. -/
theorem nx_eq (d : Dev nD) : nx d = xp d := rfl
/-- The second signal goes to the y neighbour. -/
theorem ny_eq (d : Dev nD) : ny d = yp d := rfl
/-- The device a chunk is sent to is the x neighbour. -/
theorem nxC_eq (d : Dev nD) : nxC d = xp d := Fin.ext ((k0_dev3_eq d).trans (k0_dev1_eq d).symm)
/-- The device a chunk is forwarded to is the y neighbour. -/
theorem nyC_eq (d : Dev nD) : nyC d = yp d := Fin.ext ((k0_dev11_eq d).trans (k0_dev2_eq d).symm)

/-- The y coordinate: which half of its block a device sends. -/
def hf (d : Dev nD) : ℕ := d.val / 4 % 2
/-- The x coordinate: which block of the result's rows is a device's own. -/
def bk (d : Dev nD) : ℕ := d.val / 8

/-- The y coordinate is 0 or 1. -/
theorem hf_lt (d : Dev nD) : hf d < 2 := Nat.mod_lt _ (by decide)
/-- The x coordinate is 0 or 1. -/
theorem bk_lt (d : Dev nD) : bk d < 2 := by have h : d.val < 16 := d.isLt; unfold bk; omega

/-- The x neighbour's number. -/
theorem xp_val (d : Dev nD) : (xp d).val = (4 * (d.val / 4 % 2) + d.val % 4 + 8) - 8 * (d.val / 8) := k0_dev1_eq d
/-- The y neighbour's number. -/
theorem yp_val (d : Dev nD) : (yp d).val = (8 * (d.val / 8) + d.val % 4 + 4) - 4 * (d.val / 4 % 2) := k0_dev2_eq d

/-- The x neighbour's x neighbour is the device. -/
theorem xp_xp (d : Dev nD) : xp (xp d) = d := by
  have h : d.val < 16 := d.isLt
  refine Fin.ext ?_
  rw [xp_val, xp_val]; omega
/-- The y neighbour's y neighbour is the device. -/
theorem yp_yp (d : Dev nD) : yp (yp d) = d := by
  have h : d.val < 16 := d.isLt
  refine Fin.ext ?_
  rw [yp_val, yp_val]; omega
/-- The x neighbour has the same y coordinate. -/
theorem hf_xp (d : Dev nD) : hf (xp d) = hf d := by
  have h : d.val < 16 := d.isLt
  unfold hf; rw [xp_val]; omega
/-- The x neighbour has the other x coordinate. -/
theorem bk_xp (d : Dev nD) : bk (xp d) = 1 - bk d := by
  have h : d.val < 16 := d.isLt
  unfold bk; rw [xp_val]; omega
/-- The y neighbour has the other y coordinate. -/
theorem hf_yp (d : Dev nD) : hf (yp d) = 1 - hf d := by
  have h : d.val < 16 := d.isLt
  unfold hf; rw [yp_val]; omega
/-- The y neighbour has the same x coordinate. -/
theorem bk_yp (d : Dev nD) : bk (yp d) = bk d := by
  have h : d.val < 16 := d.isLt
  unfold bk; rw [yp_val]; omega

/-! ## The chunks' first rows -/

/-- Where a chunk of the sent half begins, as the transfers name it. -/
theorem off1_eq (d : Dev nD) (k : Fin 8) : k0_off1 d (wd k) = ![512 * hf d + 64 * k.val, 0] := k0_off1_eq d k
/-- Where the kept half begins, as the transfer names it. -/
theorem off2_eq (d : Dev nD) : k0_off2 d = ![512 - 512 * hf d, 0] := k0_off2_eq d
/-- Where a chunk of the sent half begins, as its load and store name it. -/
theorem off3_eq (d : Dev nD) (k : Fin 8) : k0_off3 d (wd k) = ![512 * hf d + 64 * k.val, 0] := k0_off3_eq d k
/-- Where the kept half begins, as its load and store name it. -/
theorem off4_eq (d : Dev nD) : k0_off4 d = ![512 - 512 * hf d, 0] := k0_off4_eq d
/-- Where a device's own rows of the result begin. -/
theorem off5_eq (d : Dev nD) : k0_off5 d = ![1024 * bk d, 0] := k0_off5_eq d
/-- Where a chunk of the rows from the x neighbour begins in the result. -/
theorem off6_eq (d : Dev nD) (k : Fin 8) : k0_off6 d (wd k) = ![(512 * hf d + 64 * k.val + 1024) - 1024 * bk d, 0] := k0_off6_eq d k
/-- Where a chunk of the rows by the y neighbour begins in the result. -/
theorem off7_eq (d : Dev nD) (k : Fin 8) : k0_off7 d (wd k) = ![(64 * k.val + 1536) - (1024 * bk d + 512 * hf d), 0] := k0_off7_eq d k

/-! ## Bands of rows -/

/-- The rows `lo, …, lo + n - 1` of an array of `N` rows of 512. -/
def band (N lo n : ℕ) : Finset (⟨2, ![N, 512]⟩ : Shape).Idx := Finset.univ.filter fun i => lo ≤ (i 0).val ∧ (i 0).val < lo + n

/-- An index is in a band if its row is. -/
theorem mem_band {N lo n : ℕ} {i : (⟨2, ![N, 512]⟩ : Shape).Idx} : i ∈ band N lo n ↔ lo ≤ (i 0).val ∧ (i 0).val < lo + n := by
  unfold band; rw [Finset.mem_filter]; exact ⟨fun h => h.2, fun h => ⟨Finset.mem_univ _, h⟩⟩

/-- A rectangle of whole rows is a band. -/
theorem rect_band {N lo n : ℕ} {off : Fin 2 → ℕ} (h : off = ![lo, 0])
    (inb : ∀ a, off a + (⟨2, ![n, 512]⟩ : Shape).size a ≤ (⟨2, ![N, 512]⟩ : Shape).size a) :
    (Rect.unit (s := ⟨2, ![N, 512]⟩) off (⟨2, ![n, 512]⟩ : Shape).size inb).set = band N lo n := by
  subst h
  ext i
  rw [Rect.mem_set_unit, mem_band]
  constructor
  · intro H; exact H 0
  · intro H a
    fin_cases a
    · exact H
    · exact ⟨Nat.zero_le _, by have := (i 1).isLt; simpa using this⟩

/-- The rows of a chunk of the argument. -/
theorem xC_set (d : Dev nD) (k : Fin 8) : (xC d k).view.set = band 1024 (512 * hf d + 64 * k.val) 64 := (View.set_slice_whole _ _).trans (rect_band (off1_eq d k) _)
/-- The rows of a chunk in VMEM. -/
theorem xvC_set (d : Dev nD) (k : Fin 8) : (xvC d k).view.set = band 1024 (512 * hf d + 64 * k.val) 64 := (View.set_slice_whole _ _).trans (rect_band (off1_eq d k) _)
/-- The rows of a chunk of the cast block. -/
theorem svC_set (d : Dev nD) (k : Fin 8) : (svC d k).view.set = band 1024 (512 * hf d + 64 * k.val) 64 := (View.set_slice_whole _ _).trans (rect_band (off1_eq d k) _)
/-- The kept half's rows of the argument. -/
theorem xK_set (d : Dev nD) : (xK d).view.set = band 1024 (512 - 512 * hf d) 512 := (View.set_slice_whole _ _).trans (rect_band (off2_eq d) _)
/-- The kept half's rows in VMEM. -/
theorem xvK_set (d : Dev nD) : (xvK d).view.set = band 1024 (512 - 512 * hf d) 512 := (View.set_slice_whole _ _).trans (rect_band (off2_eq d) _)
/-- The rows a chunk's load and store go through. -/
theorem rC_set (d : Dev nD) (k : Fin 8) : (rC d k).set = band 1024 (512 * hf d + 64 * k.val) 64 := rect_band (off3_eq d k) _
/-- The rows the kept half's load and store go through. -/
theorem rK_set (d : Dev nD) : (rK d).set = band 1024 (512 - 512 * hf d) 512 := rect_band (off4_eq d) _
/-- The rows of a chunk received. -/
theorem rvC_set (k : Fin 8) : (rvC k).view.set = band 512 (64 * k.val) 64 := (View.set_slice_whole _ _).trans (rect_band rfl _)
/-- A device's own rows of the result. -/
theorem oOwn_set (d : Dev nD) : (oOwn d).view.set = band 2048 (1024 * bk d) 1024 := (View.set_slice_whole _ _).trans (rect_band (off5_eq d) _)
/-- The result's rows of a chunk from the x neighbour. -/
theorem oG1_set (d : Dev nD) (k : Fin 8) : (oG1 d k).view.set = band 2048 ((512 * hf d + 64 * k.val + 1024) - 1024 * bk d) 64 := (View.set_slice_whole _ _).trans (rect_band (off6_eq d k) _)
/-- The result's rows of a chunk by the y neighbour. -/
theorem oG2_set (d : Dev nD) (k : Fin 8) : (oG2 d k).view.set = band 2048 ((64 * k.val + 1536) - (1024 * bk d + 512 * hf d)) 64 := (View.set_slice_whole _ _).trans (rect_band (off7_eq d k) _)

/-- What a device writes at its y neighbour is what the neighbour expects by it: the same rows. -/
theorem oG2_yp_set (d : Dev nD) (k : Fin 8) : (oG2 (yp d) k).view.set = (oG1 d k).view.set := by
  rw [oG2_set, oG1_set, hf_yp, bk_yp]
  have h1 := hf_lt d; have h2 := bk_lt d; have h3 := k.isLt
  congr 1; omega

/-- Bands one after the other are disjoint. -/
theorem band_disjoint {N lo n lo' n' : ℕ} (h : lo + n ≤ lo' ∨ lo' + n' ≤ lo) : Disjoint (band N lo n) (band N lo' n') :=
  Finset.disjoint_left.mpr fun i hi hi' => by rw [mem_band] at hi hi'; omega

/-- Eight chunks of 64 rows are 512 rows. -/
theorem band_chunks (N lo : ℕ) : (Finset.univ.biUnion fun k : Fin 8 => band N (lo + 64 * k.val) 64) = band N lo 512 := by
  ext i
  rw [Finset.mem_biUnion, mem_band]
  constructor
  · rintro ⟨k, -, h⟩
    rw [mem_band] at h
    have := k.isLt; omega
  · intro h
    refine ⟨⟨((i 0).val - lo) / 64, by omega⟩, Finset.mem_univ _, ?_⟩
    rw [mem_band]; dsimp only; omega

/-- The two halves of an array are the whole. -/
theorem band_halves (N lo lo' n : ℕ) (h : N = n + n) (hl : lo = 0 ∧ lo' = n ∨ lo = n ∧ lo' = 0) : band N lo n ∪ band N lo' n = Finset.univ := by
  ext i
  rw [Finset.mem_union, mem_band, mem_band]
  have : (i 0).val < N := (i 0).isLt
  exact ⟨fun _ => Finset.mem_univ _, fun _ => by omega⟩

/-- The eight chunks of the half a device sends and the half it keeps are the whole block. -/
theorem block_cover (d : Dev nD) :
    (Finset.univ.biUnion fun k : Fin 8 => band 1024 (512 * hf d + 64 * k.val) 64) ∪ band 1024 (512 - 512 * hf d) 512 = Finset.univ := by
  rw [band_chunks]
  have := hf_lt d
  exact band_halves _ _ _ _ rfl (by omega)
/-- A chunk of the sent half is disjoint from the kept half. -/
theorem block_disjoint (d : Dev nD) (k : Fin 8) : Disjoint (band 1024 (512 * hf d + 64 * k.val) 64) (band 1024 (512 - 512 * hf d) 512) :=
  band_disjoint (by have := hf_lt d; have := k.isLt; omega)
/-- Different chunks are disjoint. -/
theorem chunks_disjoint {N lo : ℕ} (k k' : Fin 8) (h : k ≠ k') : Disjoint (band N (lo + 64 * k.val) 64) (band N (lo + 64 * k'.val) 64) :=
  band_disjoint (by have : k.val ≠ k'.val := fun e => h (Fin.ext e)
                    omega)

/-- The result's first row that comes from the x neighbour. -/
def g1 (d : Dev nD) : ℕ := 1024 * (1 - bk d) + 512 * hf d
/-- The result's first row that comes by the y neighbour. -/
def g2 (d : Dev nD) : ℕ := 1024 * (1 - bk d) + 512 * (1 - hf d)

/-- The same rows, from the first that comes from the x neighbour. -/
theorem oG1_set' (d : Dev nD) (k : Fin 8) : (oG1 d k).view.set = band 2048 (g1 d + 64 * k.val) 64 := by
  rw [oG1_set]; have := hf_lt d; have := bk_lt d; congr 1; unfold g1; omega
/-- The same rows, from the first that comes by the y neighbour. -/
theorem oG2_set' (d : Dev nD) (k : Fin 8) : (oG2 d k).view.set = band 2048 (g2 d + 64 * k.val) 64 := by
  rw [oG2_set]; have := hf_lt d; have := bk_lt d; congr 1; unfold g2; omega

/-- The rows that come from the x neighbour, those that come by the y neighbour and the device's own are all. -/
theorem result_cover (d : Dev nD) :
    (band 2048 (g1 d) 512 ∪ band 2048 (g2 d) 512) ∪ band 2048 (1024 * bk d) 1024 = Finset.univ := by
  ext i
  rw [Finset.mem_union, Finset.mem_union, mem_band, mem_band, mem_band]
  have h : (i 0).val < 2048 := (i 0).isLt
  have := hf_lt d; have := bk_lt d
  unfold g1 g2
  exact ⟨fun _ => Finset.mem_univ _, fun _ => by omega⟩
/-- The rows that come from the neighbours are disjoint from the device's own. -/
theorem result_disjoint (d : Dev nD) : Disjoint (band 2048 (g1 d) 512 ∪ band 2048 (g2 d) 512) (band 2048 (1024 * bk d) 1024) := by
  have := hf_lt d; have := bk_lt d
  exact Finset.disjoint_union_left.mpr ⟨band_disjoint (by unfold g1; omega), band_disjoint (by unfold g2; omega)⟩
/-- The rows from the x neighbour are disjoint from those by the y neighbour. -/
theorem forwarded_disjoint (d : Dev nD) : Disjoint (band 2048 (g1 d) 512) (band 2048 (g2 d) 512) := by
  have := hf_lt d; have := bk_lt d
  exact band_disjoint (by unfold g1 g2; omega)

/-! ## What the buffers hold -/

variable (m : (ℓ : Loc nD τ sig) → Buf (Elt F) ℓ)

/-- The argument's block on device `c`. -/
def X (c : Dev nD) : (⟨2, ![1024, 512]⟩ : Shape).Idx → Elt F .f32 := m ((c : Thread nD τ).loc main_arg0)
/-- The block cast. -/
def SV (c : Dev nD) : (⟨2, ![1024, 512]⟩ : Shape).Idx → Elt F .bf16 := truncf (F := F) (φ := .f32) .bf16 (X m c) bitsLt_bf16_f32

/-- Row `r`, column `j` of a block. -/
abbrev cell (r : ℕ) (h : r < 1024) (j : Fin 512) : (⟨2, ![1024, 512]⟩ : Shape).Idx := ValueIdx.ix2 ⟨r, h⟩ j

/-- What device `c` receives: the x neighbour's cast rows of `c`'s half. -/
def RV (c : Dev nD) : (⟨2, ![512, 512]⟩ : Shape).Idx → Elt F .bf16 := fun i =>
  SV m (xp c) (cell (512 * hf c + (i 0).val) (by have := hf_lt c; have : (i 0).val < 512 := (i 0).isLt; omega) (i 1))
/-- The device whose cast block row `r` of device `c`'s result is taken from. -/
def src (c : Dev nD) (r : ℕ) : Dev nD := if r / 1024 = bk c then c else if r % 1024 / 512 = hf c then xp c else xp (yp c)
/-- The result on device `c`. -/
def OUT (c : Dev nD) : (⟨2, ![2048, 512]⟩ : Shape).Idx → Elt F .bf16 := fun i =>
  SV m (src c (i 0).val) (cell ((i 0).val % 1024) (Nat.mod_lt _ (by decide)) (i 1))

/-! ## Contents seen through chunks -/

/-- Where a rectangle of whole rows puts its element: `lo` rows further down. -/
theorem emb_band {N lo n : ℕ} {off : Fin 2 → ℕ} (h : off = ![lo, 0])
    (inb : ∀ a, off a + (⟨2, ![n, 512]⟩ : Shape).size a ≤ (⟨2, ![N, 512]⟩ : Shape).size a) (x : (⟨2, ![n, 512]⟩ : Shape).Idx) :
    ((((Rect.unit (s := ⟨2, ![N, 512]⟩) off (⟨2, ![n, 512]⟩ : Shape).size inb).emb x) 0).val = lo + (x 0).val)
      ∧ ((((Rect.unit (s := ⟨2, ![N, 512]⟩) off (⟨2, ![n, 512]⟩ : Shape).size inb).emb x) 1).val = (x 1).val) := by
  subst h
  constructor
  · show lo + 1 * (x 0).val = _; omega
  · show 0 + 1 * (x 1).val = _; omega

/-- Entries of a cast block agree at equal devices, rows and columns. -/
theorem SV_congr {c c' : Dev nD} {r r' : ℕ} {h : r < 1024} {h' : r' < 1024} {j j' : Fin 512} (hc : c = c') (hr : r = r') (hj : j.val = j'.val) :
    SV m c (cell r h j) = SV m c' (cell r' h' j') := by
  subst hc; subst hr; rw [Fin.ext hj]

/-- An entry of a cast block, by its row and its column. -/
theorem SV_eta (c : Dev nD) (i : (⟨2, ![1024, 512]⟩ : Shape).Idx) : SV m c i = SV m c (cell (i 0).val (i 0).isLt (i 1)) := congrArg (SV m c) (ValueIdx.eq_ix2 i)

/-- Sending: chunk `k` of device `c`'s cast block is chunk `k` of what the x neighbour receives. -/
theorem send_reads (c : Dev nD) (k : Fin 8) : (rvC k).view.read (Elt F) (RV m (xp c)) = (svC c k).view.read (Elt F) (SV m c) := by
  funext x
  obtain ⟨h0, h1⟩ := emb_band (N := 512) (off := ![64 * k.val, 0]) rfl (inbR k) x
  obtain ⟨h0', h1'⟩ := emb_band (N := 1024) (off1_eq c k) (k0_off1_inb c k) x
  show RV m (xp c) _ = SV m c _
  rw [SV_eta]
  unfold RV
  refine SV_congr m (xp_xp c) ?_ ?_
  · refine Eq.trans ?_ h0'.symm
    rw [hf_xp]; exact (congrArg (512 * hf c + ·) h0).trans (by omega)
  · exact h1.trans h1'.symm

/-- Storing the own rows: the cast block is the result's own rows. -/
theorem own_reads (c : Dev nD) : (oOwn c).view.read (Elt F) (OUT m c) = svM.view.read (Elt F) (SV m c) := by
  funext x
  obtain ⟨h0, h1⟩ := emb_band (N := 2048) (off5_eq c) (k0_off5_inb c) x
  have hx : (x 0).val < 1024 := (x 0).isLt
  show OUT m c _ = SV m c x
  rw [SV_eta]
  unfold OUT
  refine SV_congr m ?_ ?_ ?_
  · unfold src; exact if_pos ((congrArg (· / 1024) h0).trans (by dsimp only; omega))
  · exact (congrArg (· % 1024) h0).trans (by dsimp only; omega)
  · exact h1

/-- Rows from the x neighbour in the result of any device that takes them from there. -/
theorem fwd_reads (c c' : Dev nD) (k : Fin 8) (hs : ∀ r, r / 1024 = 1 - bk c → r % 1024 / 512 = hf c → src c' r = xp c) :
    (oG1 c k).view.read (Elt F) (OUT m c') = (rvC k).view.read (Elt F) (RV m c) := by
  funext x
  obtain ⟨h0, h1⟩ := emb_band (N := 2048) (off6_eq c k) (k0_off6_inb c k) x
  obtain ⟨h0', h1'⟩ := emb_band (N := 512) (off := ![64 * k.val, 0]) rfl (inbR k) x
  have hx : (x 0).val < 64 := (x 0).isLt
  have := hf_lt c; have := bk_lt c; have := k.isLt
  show OUT m c' _ = RV m c _
  unfold OUT RV
  refine SV_congr m (hs _ ?_ ?_) ?_ ?_
  · exact (congrArg (· / 1024) h0).trans (by dsimp only; omega)
  · exact (congrArg (· % 1024 / 512) h0).trans (by dsimp only; omega)
  · exact (congrArg (· % 1024) h0).trans (Eq.trans (by dsimp only; omega) (congrArg (512 * hf c + ·) h0'.symm))
  · exact h1.trans h1'.symm

/-- Storing a received chunk: what the device received is what its own result has there. -/
theorem st_reads (c : Dev nD) (k : Fin 8) : (oG1 c k).view.read (Elt F) (OUT m c) = (rvC k).view.read (Elt F) (RV m c) :=
  fwd_reads m c c k fun r h1 h2 => by
    have := bk_lt c
    unfold src; rw [if_neg (by omega), if_pos h2]
/-- Forwarding a received chunk: what the device received is what the y neighbour's result has there. -/
theorem y_reads (c : Dev nD) (k : Fin 8) : (oG1 c k).view.read (Elt F) (OUT m (yp c)) = (rvC k).view.read (Elt F) (RV m c) :=
  fwd_reads m c (yp c) k fun r h1 h2 => by
    have := bk_lt c; have := hf_lt c
    unfold src; rw [bk_yp, hf_yp, yp_yp, if_neg (by omega), if_neg (by omega)]

/-- Casting a loaded chunk gives the chunk of the cast block. -/
theorem cast_reads (c : Dev nD) (k : Fin 8) :
    (svM.access (rC c k)).read (Elt F) (SV m c) = k0_pay1 (F := F) (xvM.view.readAt (Elt F) (rC c k).toLoadRect (X m c)) := by
  unfold k0_pay1
  exact (shapeCast_self (s := S64x512) _ _).symm
/-- Casting the kept half gives the kept half of the cast block. -/
theorem castK_reads (c : Dev nD) :
    (svM.access (rK c)).read (Elt F) (SV m c) = k0_pay9 (F := F) (xvM.view.readAt (Elt F) (rK c).toLoadRect (X m c)) := by
  unfold k0_pay9
  exact (shapeCast_self (s := S512x512) _ _).symm

end Cert.KernelIdeal.Gather

end
-- ==== Proof.Protocol.lean ====
/-
The protocol: what every semaphore's one round pays for, and with which contents.

Every cell — the barrier and the 50 DMA semaphores of every device — has one round. A barrier's round has two duties:
one unit from the x neighbour, who lends its receive buffer with it, and one from the y neighbour, who lends the rows
of its result that the waiting device writes. A DMA semaphore's round has one duty: the transfer that raises it, whose
payload is the rows it moved, at the contents of `Contents`, and the source's share.
-/
module

public import proofs.«01_k».proof.Proof.Contents

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the pipeline library's, and the protocol's with duties named by `Bool` -/

/-- The ghost state of the kernel's own schedule. -/
abbrev UB : Type := URounds (GSem nD τ sig) Bool
/-- The ghost state of the launch and of the kernel's schedule. -/
abbrev UU : Type := UR sig nD τ × UB

local notation "𝕄" => MT nD τ sig Unit (Elt F) ℕ UU ℕ

/-- The launch's part of the ghost state. -/
abbrev EP : Emb (UR sig nD τ) (MT nD τ sig Unit (Elt F) ℕ UU ℕ) := embL
/-- The schedule's part of the ghost state. -/
abbrev ER : Emb UB (MT nD τ sig Unit (Elt F) ℕ UU ℕ) := embR

/-! ## The cells and their roles -/

/-- Device `c`'s cell of a semaphore. -/
abbrev cel (c : Dev nD) (s : SemLoc sig) : GSem nD τ sig := ((c : Thread nD τ), s)
/-- Device `c`'s barrier cell. -/
abbrev bar (c : Dev nD) : GSem nD τ sig := cel c (.reg barS)

/-- What a DMA semaphore is for: loading a chunk or the kept half, storing a received chunk or the own rows, sending a
    chunk along x, receiving one along x, forwarding one along y, receiving one along y. -/
inductive Role where
  | ld (k : Fin 8) | ldK | st (k : Fin 8) | own | s1 (k : Fin 8) | r1 (k : Fin 8) | s2 (k : Fin 8) | r2 (k : Fin 8)
deriving DecidableEq

/-- The role of a DMA semaphore, by its number. -/
def role (s : DmaSem sig) : Role :=
  if h : s.val < 8 then .ld ⟨s.val, h⟩ else if s.val = 8 then .ldK
  else if h : s.val - 9 < 8 then .st ⟨s.val - 9, h⟩ else if s.val = 17 then .own
  else if h : s.val - 18 < 8 then .s1 ⟨s.val - 18, h⟩ else if h : s.val - 26 < 8 then .r1 ⟨s.val - 26, h⟩
  else if h : s.val - 34 < 8 then .s2 ⟨s.val - 34, h⟩ else if h : s.val - 42 < 8 then .r2 ⟨s.val - 42, h⟩ else .own

/-- The loads' semaphores have the role of loading. -/
theorem role_in : ∀ k : Fin 8, role (inS k.castSucc) = .ld k := by decide
/-- The ninth load semaphore loads the kept half. -/
theorem role_inK : role (inS 8) = .ldK := by decide
/-- The stores' semaphores have the role of storing. -/
theorem role_st : ∀ k : Fin 8, role (stS k.castSucc) = .st k := by decide
/-- The ninth store semaphore stores the own rows. -/
theorem role_own : role (stS 8) = .own := by decide
/-- The send semaphores along x. -/
theorem role_s1 : ∀ k : Fin 8, role (s1S k) = .s1 k := by decide
/-- The receive semaphores along x. -/
theorem role_r1 : ∀ k : Fin 8, role (r1S k) = .r1 k := by decide
/-- The send semaphores along y. -/
theorem role_s2 : ∀ k : Fin 8, role (s2S k) = .s2 k := by decide
/-- The receive semaphores along y. -/
theorem role_r2 : ∀ k : Fin 8, role (r2S k) = .r2 k := by decide

/-- What a transfer of a chunk of the argument credits. -/
abbrev NA : ℕ := (xvC 0 0).view.dmaCredit
/-- What the transfer of the kept half credits. -/
abbrev NK : ℕ := (xvK 0).view.dmaCredit
/-- What a transfer of a cast chunk credits. -/
abbrev NC : ℕ := (rvC 0).view.dmaCredit
/-- What the store of the own rows credits. -/
abbrev NO : ℕ := (oOwn 0).view.dmaCredit

/-- What a semaphore of each role is raised by, in all. -/
def amt : Role → ℕ
  | .ld _ => NA | .ldK => NK | .own => NO | _ => NC

/-- Every semaphore is raised by something. -/
theorem amt_pos (R : Role) : 0 < amt R := by
  cases R
  case ld => exact View.dmaCredit_pos _ (by decide)
  case ldK => exact View.dmaCredit_pos _ (by decide)
  case own => exact View.dmaCredit_pos _ (by decide)
  all_goals exact View.dmaCredit_pos _ (by decide)

/-- A load's chunk credits what every chunk of f32 does. -/
theorem cr_xvC (d : Dev nD) (k : Fin 8) : (xvC d k).view.dmaCredit = NA := rfl
/-- The load of the kept half credits its amount. -/
theorem cr_xvK (d : Dev nD) : (xvK d).view.dmaCredit = NK := rfl
/-- A received chunk credits what every cast chunk does. -/
theorem cr_rvC (k : Fin 8) : (rvC k).view.dmaCredit = NC := rfl
/-- A sent chunk credits what every cast chunk does. -/
theorem cr_svC (d : Dev nD) (k : Fin 8) : (svC d k).view.dmaCredit = NC := rfl
/-- A stored chunk credits what every cast chunk does. -/
theorem cr_oG1 (d : Dev nD) (k : Fin 8) : (oG1 d k).view.dmaCredit = NC := rfl
/-- A chunk by the y neighbour credits what every cast chunk does. -/
theorem cr_oG2 (d : Dev nD) (k : Fin 8) : (oG2 d k).view.dmaCredit = NC := rfl
/-- The store of the own rows credits its amount. -/
theorem cr_oOwn (d : Dev nD) : (oOwn d).view.dmaCredit = NO := rfl

/-! ## The buffers as held by a device -/

section Held

/-- Rows `S` of the argument's block of device `c`, at contents `f`. -/
abbrev xAt (c : Dev nD) (S : Finset (⟨2, ![1024, 512]⟩ : Shape).Idx) (q : PosShare TreeShare) (f : (⟨2, ![1024, 512]⟩ : Shape).Idx → Elt F .f32) : sProp 𝕄 :=
  (xM.view.loc (c : Thread nD τ)) ↦[S]{q} f
/-- Rows `S` of the block in VMEM. -/
abbrev xvAt (c : Dev nD) (S : Finset (⟨2, ![1024, 512]⟩ : Shape).Idx) (q : PosShare TreeShare) (f : (⟨2, ![1024, 512]⟩ : Shape).Idx → Elt F .f32) : sProp 𝕄 :=
  (xvM.view.loc (c : Thread nD τ)) ↦[S]{q} f
/-- Rows `S` of the cast block. -/
abbrev svAt (c : Dev nD) (S : Finset (⟨2, ![1024, 512]⟩ : Shape).Idx) (q : PosShare TreeShare) (f : (⟨2, ![1024, 512]⟩ : Shape).Idx → Elt F .bf16) : sProp 𝕄 :=
  (svM.view.loc (c : Thread nD τ)) ↦[S]{q} f
/-- Rows `S` of the receive buffer. -/
abbrev rvAt (c : Dev nD) (S : Finset (⟨2, ![512, 512]⟩ : Shape).Idx) (q : PosShare TreeShare) (f : (⟨2, ![512, 512]⟩ : Shape).Idx → Elt F .bf16) : sProp 𝕄 :=
  (rvM.view.loc (c : Thread nD τ)) ↦[S]{q} f
/-- Rows `S` of the result. -/
abbrev oAt (c : Dev nD) (S : Finset (⟨2, ![2048, 512]⟩ : Shape).Idx) (q : PosShare TreeShare) (f : (⟨2, ![2048, 512]⟩ : Shape).Idx → Elt F .bf16) : sProp 𝕄 :=
  (oM.view.loc (c : Thread nD τ)) ↦[S]{q} f

end Held

variable (m : (ℓ : Loc nD τ sig) → Buf (Elt F) ℓ)

/-! ## The payloads -/

/-- What the round of a DMA cell of device `c` hands over. -/
def pay (c : Dev nD) : Role → sProp 𝕄
  | .ld k => iprop(xvAt c (xvC c k).view.set fullShare (X m c) ∗ xAt c (xC c k).view.set fullShare (X m c))
  | .ldK => iprop(xvAt c (xvK c).view.set fullShare (X m c) ∗ xAt c (xK c).view.set fullShare (X m c))
  | .st k => iprop(oAt c (oG1 c k).view.set fullShare (OUT m c) ∗ rvAt c (rvC k).view.set fullShare.right (RV m c))
  | .own => iprop(oAt c (oOwn c).view.set fullShare (OUT m c) ∗ svAt c svM.view.set fullShare.right (SV m c))
  | .s1 k => svAt c (svC c k).view.set fullShare.left (SV m c)
  | .r1 k => rvAt c (rvC k).view.set fullShare (RV m c)
  | .s2 k => rvAt c (rvC k).view.set fullShare.left (RV m c)
  | .r2 k => oAt c (oG2 c k).view.set fullShare (OUT m c)

/-- What device `d` lends its x neighbour: its receive buffer. -/
def lendX (d : Dev nD) : sProp 𝕄 := iprop(∃ f, rvAt (F := F) d Finset.univ fullShare f)
/-- What device `d` lends its y neighbour: the result's rows that come by it. -/
def lendY (d : Dev nD) : sProp 𝕄 := iprop(∃ f, bigSep Finset.univ fun k : Fin 8 => oAt (F := F) d (oG2 d k).view.set fullShare f)

/-- The schedule. -/
def Rd : Rounds.Schedule (GSem nD τ sig) Bool 𝕄 where
  duties g r := if r = 0 then (match g.2 with | .reg _ => Finset.univ | .dma _ => {false}) else ∅
  unitless _ := False
  amount g _ _ := match g.2 with | .reg _ => 1 | .dma s => amt (role s)
  payload g _ d := match g.2 with
    | .reg _ => if d then lendY (yp g.1.1) else lendX (xp g.1.1)
    | .dma s => pay m g.1.1 (role s)
  amount_pos g _ _ _ := by
    rcases g with ⟨t, _ | s⟩
    · exact Nat.one_pos
    · exact amt_pos _

/-- A DMA cell's payload can be kept in an invariant. -/
instance pay_storable (c : Dev nD) (R : Role) : BI.Storable (upEmb : UEmb _ 𝕄) (pay (F := F) m c R) := by
  cases R <;> (unfold pay; infer_instance)
/-- The loan along x can be kept in an invariant. -/
instance lendX_storable (c : Dev nD) : BI.Storable (upEmb : UEmb _ 𝕄) (lendX (F := F) c) := by unfold lendX; infer_instance
/-- The loan along y can be kept in an invariant. -/
instance lendY_storable (c : Dev nD) : BI.Storable (upEmb : UEmb _ 𝕄) (lendY (F := F) c) := by unfold lendY; infer_instance

/-- Every payload of the schedule can be kept in an invariant. -/
instance Rd_payload_storable (g : GSem nD τ sig) (r : ℕ) (d : Bool) :
    BI.Storable (upEmb : UEmb _ 𝕄) ((Rd (F := F) m).payload g r d) := by
  rcases g with ⟨t, _ | s⟩
  · show BI.Storable upEmb (if d then lendY (yp t.1) else lendX (xp t.1))
    split <;> infer_instance
  · show BI.Storable upEmb (pay m t.1 (role s))
    infer_instance

/-! ## The schedule's tables -/

section Tables
variable (c : Dev nD)

/-- A barrier's round has both duties. -/
theorem mem_duties_bar (d : Bool) : d ∈ (Rd (F := F) m).duties (bar c) 0 := Finset.mem_univ d
/-- A DMA cell's round has its one duty. -/
theorem mem_duties_dma (s : DmaSem sig) : false ∈ (Rd (F := F) m).duties (cel c (.dma s)) 0 := Finset.mem_singleton_self _
/-- There is one round only. -/
theorem duties_later (g : GSem nD τ sig) : ∀ r, 1 ≤ r → (Rd (F := F) m).duties g r = ∅ :=
  fun r hr => if_neg (by omega)
/-- A barrier's duty is one unit. -/
theorem amount_bar (d : Bool) : (Rd (F := F) m).amount (bar c) 0 d = 1 := rfl
/-- A DMA cell's duty is its role's amount. -/
theorem amount_dma {s : DmaSem sig} {R : Role} (h : role s = R) (d : Bool) : (Rd (F := F) m).amount (cel c (.dma s)) 0 d = amt R := by
  subst h; rfl
/-- A barrier's round is two units. -/
theorem expect_bar : (Rd (F := F) m).expect (bar c) 0 = 2 := by
  unfold Schedule.expect Schedule.amountOf
  show ∑ d ∈ (Finset.univ : Finset Bool), 1 = 2
  rfl
/-- A DMA cell's round is its role's amount. -/
theorem expect_dma {s : DmaSem sig} {R : Role} (h : role s = R) : (Rd (F := F) m).expect (cel c (.dma s)) 0 = amt R := by
  subst h
  unfold Schedule.expect Schedule.amountOf
  show ∑ d ∈ ({false} : Finset Bool), amt (role s) = _
  rw [Finset.sum_singleton]
/-- A DMA cell's duty pays its role's payload. -/
theorem payload_dma {s : DmaSem sig} {R : Role} (h : role s = R) (d : Bool) : (Rd (F := F) m).payload (cel c (.dma s)) 0 d = pay m c R := by
  subst h; rfl
/-- The x neighbour's signal brings its loan. -/
theorem payload_bar_false : (Rd (F := F) m).payload (bar c) 0 false = lendX (xp c) := rfl
/-- The y neighbour's signal brings its loan. -/
theorem payload_bar_true : (Rd (F := F) m).payload (bar c) 0 true = lendY (yp c) := rfl
/-- A barrier's round hands over both loans. -/
theorem rest_bar : bigSep ((Rd (F := F) m).duties (bar c) 0 \ ∅) (fun d => (Rd (F := F) m).payload (bar c) 0 d)
    = iprop(lendX (xp c) ∗ lendY (yp c)) := by
  rw [Finset.sdiff_empty]
  show bigSep (Finset.univ : Finset Bool) _ = _
  rw [bigSep_univ_eq_bigSepL [false, true] (by decide) (by decide), bigSepL_cons_cons, bigSepL_singleton, payload_bar_false, payload_bar_true]
  rfl
/-- A DMA cell's round hands over its payload. -/
theorem rest_dma {s : DmaSem sig} {R : Role} (h : role s = R) :
    bigSep ((Rd (F := F) m).duties (cel c (.dma s)) 0 \ ∅) (fun d => (Rd (F := F) m).payload (cel c (.dma s)) 0 d) = pay m c R := by
  rw [Finset.sdiff_empty]
  show bigSep ({false} : Finset Bool) _ = _
  rw [bigSep_singleton, payload_dma m c h]

end Tables

/-! ## What a device owes, and the levels -/

/-- What device `c` still owes its x neighbour's receive semaphores, from chunk `n` on. -/
def D1 (c : Dev nD) (n : ℕ) : CellTallies nD τ sig Unit := ∑ k ∈ Finset.univ.filter (fun k : Fin 8 => n ≤ k.val), tallyAt (cel (xp c) (.dma (r1S k))) () NC
/-- What device `c` still owes its y neighbour's receive semaphores, from chunk `n` on. -/
def D2 (c : Dev nD) (n : ℕ) : CellTallies nD τ sig Unit := ∑ k ∈ Finset.univ.filter (fun k : Fin 8 => n ≤ k.val), tallyAt (cel (yp c) (.dma (r2S k))) () NC
/-- What device `c` owes at launch: every chunk to each neighbour, and each neighbour's barrier one unit. -/
def O₀ (c : Dev nD) : CellTallies nD τ sig Unit := (D1 c 0 + D2 c 0 + tallyAt (bar (yp c)) () 1) + tallyAt (bar (xp c)) () 1

/-- The chunks from `k` on are `k` and those after it. -/
theorem from_step (k : Fin 8) : Finset.univ.filter (fun j : Fin 8 => k.val ≤ j.val) = insert k (Finset.univ.filter fun j : Fin 8 => k.val + 1 ≤ j.val) := by
  ext j
  simp only [Finset.mem_filter, Finset.mem_univ, true_and, Finset.mem_insert]
  exact ⟨fun h => by by_cases e : j = k
                     · exact .inl e
                     · exact .inr (by have : j.val ≠ k.val := fun e' => e (Fin.ext e')
                                      omega),
         fun h => by rcases h with rfl | h
                     · exact le_refl _
                     · omega⟩
/-- Chunk `k` is not after itself. -/
theorem from_notMem (k : Fin 8) : k ∉ Finset.univ.filter fun j : Fin 8 => k.val + 1 ≤ j.val := by
  rw [Finset.mem_filter]; omega
/-- Sending chunk `k` along x takes it from what is owed. -/
theorem D1_step (c : Dev nD) (k : Fin 8) : D1 c k.val = D1 c (k.val + 1) + tallyAt (cel (xp c) (.dma (r1S k))) () NC := by
  unfold D1; rw [from_step, Finset.sum_insert (from_notMem k), add_comm]
/-- Forwarding chunk `k` along y takes it from what is owed. -/
theorem D2_step (c : Dev nD) (k : Fin 8) : D2 c k.val = D2 c (k.val + 1) + tallyAt (cel (yp c) (.dma (r2S k))) () NC := by
  unfold D2; rw [from_step, Finset.sum_insert (from_notMem k), add_comm]
/-- No chunk is left after the eighth. -/
theorem from_eight : Finset.univ.filter (fun j : Fin 8 => 8 ≤ j.val) = ∅ := by decide
/-- After eight chunks nothing is owed along x. -/
theorem D1_end (c : Dev nD) : D1 c 8 = 0 := by unfold D1; rw [from_eight, Finset.sum_empty]
/-- After eight chunks nothing is owed along y. -/
theorem D2_end (c : Dev nD) : D2 c 8 = 0 := by unfold D2; rw [from_eight, Finset.sum_empty]

/-- The levels: receives along y above receives along x above barriers above everything else. -/
def lvR : Role → ℕ
  | .r1 _ => 2 | .r2 _ => 3 | _ => 0
/-- The level of a semaphore. -/
def lvS : SemLoc sig → ℕ
  | .reg _ => 1
  | .dma s => lvR (role s)
/-- The level of a cell: its semaphore's. -/
def lv (g : GSem nD τ sig) (_ : Unit) : ℕ := lvS g.2
/-- The cells that have a level: those of the TensorCores. -/
def L (g : GSem nD τ sig) : Finset Unit := if g.1.2 = .tc then {()} else ∅

/-- No other cell has a level. -/
theorem L_of_ne (g : GSem nD τ sig) (h : g.1.2 ≠ .tc) : L g = ∅ := if_neg h
/-- A receive along x is at level 2. -/
theorem lv_r1 (k : Fin 8) : lvS (.dma (r1S k)) = 2 := congrArg lvR (role_r1 k)
/-- A receive along y is at level 3. -/
theorem lv_r2 (k : Fin 8) : lvS (.dma (r2S k)) = 3 := congrArg lvR (role_r2 k)

/-- What a sum of debts owes, one of them owes. -/
theorem sum_pos {I : Type} (s : Finset I) (f : I → CellTallies nD τ sig Unit) {g : GSem nD τ sig} {u : Unit} (h : 0 < (∑ k ∈ s, f k) g u) :
    ∃ k ∈ s, 0 < f k g u := by
  rw [Finset.sum_apply, Finsupp.finset_sum_apply] at h
  obtain ⟨k, hk, hne⟩ := Finset.exists_ne_zero_of_sum_ne_zero (Nat.pos_iff_ne_zero.mp h)
  exact ⟨k, hk, Nat.pos_of_ne_zero hne⟩
/-- A debt to one cell is owed to no other. -/
theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h
/-- What is owed along x is owed to a receive semaphore of the x neighbour. -/
theorem D1_pos {c : Dev nD} {n : ℕ} {g : GSem nD τ sig} {u : Unit} (h : 0 < D1 c n g u) : ∃ k, g = cel (xp c) (.dma (r1S k)) := by
  obtain ⟨k, -, hk⟩ := sum_pos _ _ h
  exact ⟨k, tally_pos hk⟩
/-- What is owed along y is owed to a receive semaphore of the y neighbour. -/
theorem D2_pos {c : Dev nD} {n : ℕ} {g : GSem nD τ sig} {u : Unit} (h : 0 < D2 c n g u) : ∃ k, g = cel (yp c) (.dma (r2S k)) := by
  obtain ⟨k, -, hk⟩ := sum_pos _ _ h
  exact ⟨k, tally_pos hk⟩
/-- What two debts together owe, one of them owes. -/
theorem add_pos' {O O' : CellTallies nD τ sig Unit} {g : GSem nD τ sig} {u : Unit} (h : 0 < (O + O') g u) : 0 < O g u ∨ 0 < O' g u := by
  rw [Pi.add_apply, Finsupp.add_apply] at h; omega

/-- A device may wait on a cell below everything it owes. -/
theorem mayWait_of (c : Dev nD) (s : SemLoc sig) (O : CellTallies nD τ sig Unit)
    (h : ∀ g u, 0 < O g u → g.1.2 = .tc ∧ lvS s < lvS g.2) : (levAts L lv : sProp 𝕄) ⊢ MayWait (c : Thread nD τ) s () O :=
  MayOwe.of_cut (L := L) (lev := lv) (lvS s)
    (fun p hp => by rw [Finset.mem_singleton.mp hp]; unfold L; rw [if_pos rfl]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- Owing chunks only, a device may wait below the receives along x. -/
theorem mayWait_both (c : Dev nD) (s : SemLoc sig) (hs : lvS s < 2) (n n' : ℕ) :
    (levAts L lv : sProp 𝕄) ⊢ MayWait (c : Thread nD τ) s () (D1 c n + D2 c n') :=
  mayWait_of c s _ fun g u hg => by
    rcases add_pos' hg with h | h
    · obtain ⟨k, rfl⟩ := D1_pos h
      exact ⟨rfl, by rw [lv_r1]; exact hs⟩
    · obtain ⟨k, rfl⟩ := D2_pos h
      exact ⟨rfl, by rw [lv_r2]; omega⟩
/-- Owing chunks along y only, a device may wait below the receives along y. -/
theorem mayWait_y (c : Dev nD) (s : SemLoc sig) (hs : lvS s < 3) (n : ℕ) :
    (levAts L lv : sProp 𝕄) ⊢ MayWait (c : Thread nD τ) s () (D2 c n) :=
  mayWait_of c s _ fun g u hg => by
    obtain ⟨k, rfl⟩ := D2_pos hg
    exact ⟨rfl, by rw [lv_r2]; exact hs⟩
/-- Owing nothing, a device may wait on any semaphore. -/
theorem mayWait_none (c : Dev nD) (s : SemLoc sig) : (levAts L lv : sProp 𝕄) ⊢ MayWait (c : Thread nD τ) s () 0 :=
  mayWait_of c s _ fun g u hg => absurd hg (Nat.lt_irrefl 0)

end Cert.KernelIdeal.Gather

end
-- ==== Proof.Rules.lean ====
/-
One rule for each kind of operation, at a symbolic device, semaphore and chunk.

`carry K c O` is what device `c` always has at hand: every cell's invariant (`records`), the levels, and that it owes
`O`. A wait trades the credit and the position for the payload; a copy or a send trades the source's share, the
destination and the duty's token for the credit.
-/
module

public import proofs.«01_k».proof.Proof.Protocol

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## What every device has at hand -/

/-- Every cell's invariant, and that every cell has reached its first round. -/
def records (K : Dev nD × SemLoc sig → ℕ) : sProp 𝕄 :=
  iprop((bigSep Finset.univ fun g : Dev nD × SemLoc sig => cellInv ER (Rd m) (K g) (cel g.1 g.2))
    ∗ bigSep Finset.univ fun g : Dev nD × SemLoc sig => reached ER (cel g.1 g.2) 0)

/-- The records can be copied. -/
instance records_persistent (K : Dev nD × SemLoc sig → ℕ) : BI.Persistent (records (F := F) m K) := by unfold records; infer_instance

/-- The records hold each cell's invariant. -/
theorem inv_at (K : Dev nD × SemLoc sig → ℕ) (c : Dev nD) (s : SemLoc sig) : records m K ⊢ cellInv ER (Rd m) (K (c, s)) (cel c s) := by
  unfold records
  iintro ⟨H, -⟩
  have h : (bigSep Finset.univ fun g : Dev nD × SemLoc sig => (cellInv ER (Rd m) (K g) (cel g.1 g.2) : sProp 𝕄)) ⊢ cellInv ER (Rd m) (K (c, s)) (cel c s) :=
    bigSep_elim (Finset.mem_univ (c, s))
  iapply h; iexact H
/-- The records say that each cell has reached its first round. -/
theorem reached_at (K : Dev nD × SemLoc sig → ℕ) (c : Dev nD) (s : SemLoc sig) : records (F := F) m K ⊢ reached ER (cel c s) 0 := by
  unfold records
  iintro ⟨-, H⟩
  have h : (bigSep Finset.univ fun g : Dev nD × SemLoc sig => (reached ER (cel g.1 g.2) 0 : sProp 𝕄)) ⊢ reached ER (cel c s) 0 :=
    bigSep_elim (Finset.mem_univ (c, s))
  iapply h; iexact H

/-- What device `c` carries through its program: the records, the levels, and that it owes `O`. -/
def carry (K : Dev nD × SemLoc sig → ℕ) (c : Dev nD) (O : CellTallies nD τ sig Unit) : sProp 𝕄 :=
  iprop(records m K ∗ levAts L lv ∗ ∃ W, owes (c : Thread nD τ) O W)

/-- Program `p` on device `c` ends in `Q`. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

variable (K : Dev nD × SemLoc sig → ℕ) (c : Dev nD)

/-! ## The rules -/

omit [FloatOps F] in
/-- Writing what `G` shows through a view leaves `G` on the view's elements. -/
theorem write_read_eq {sp : Space} {sh : Shape} {e : EltTy} {v : View sig .tc sp sh e} {q : PosShare TreeShare}
    (fd G : Buf (Elt F) (v.loc (c : Thread nD τ))) :
    (v.loc (c : Thread nD τ) ↦[v.set]{q} (v.write (Elt F) fd (v.read (Elt F) G) Finset.univ) : sProp 𝕄)
      = (v.loc (c : Thread nD τ) ↦[v.set]{q} G) :=
  pointsTo_congr fun i hi => by
    obtain ⟨x, -, rfl⟩ := Finset.mem_map.mp hi
    refine (View.write_emb_of_mem _ _ (Finset.mem_univ x)).trans ?_
    rw [View.read_apply, cast_cast, cast_eq]

/-- A DMA wait: the credit and the position for the payload. -/
theorem wait_rule {s : DmaSem sig} {R : Role} (hs : role s = R) {sp sp' : Space} {sh sh' : Shape} {e e' : EltTy}
    {src : Memref sig .tc sp' sh' e'} {dst : Memref sig .tc sp sh e} {hsrc : src.view.WordExact} {hdst : dst.view.WordExact}
    (hn : dst.view.dmaCredit = amt R) {O : CellTallies nD τ sig Unit}
    (hO : (levAts L lv : sProp 𝕄) ⊢ MayWait (c : Thread nD τ) (.dma s) () O) (Q : PUnit → sProp 𝕄) :
    iprop(carry m K c O ∗ cred (tallyAt (cel c (.dma s)) () (amt R)) ∗ atPos ER (cel c (.dma s)) 0 ∅ 0
        ∗ ((carry m K c O ∗ atPos ER (cel c (.dma s)) 1 ∅ 0 ∗ pay m c R) -∗ Q ⟨⟩))
      ⊢ WP c (Prog.lift (.waitDma2 s src dst hsrc hdst)) Q := by
  unfold carry
  iintro ⟨⟨#HR, #HL, ⟨%W, HO⟩⟩, Hc, Hat, Hk⟩
  simp only [Prog.lift]
  iapply (Rounds.wp_wait_rest_token Variants.none ER (Rd m) (c : Thread nD τ) none (κ := K (c, .dma s))
      (wpE_waitDma2_eq Variants.none (c : Thread nD τ) none Set.univ) (Set.mem_univ _) () (O := O) (W := W) (R := 0) (m := 0) (T := ∅)
      (by rw [Nat.zero_add, expect_dma m c hs, hn])) $$ [Hc HO Hat]
  · isplitr; · iapply (inv_at m K c (.dma s)); iexact HR
    isplitl [Hc]; · rw [hn]; iexact Hc
    isplitl [HO]; · iexact HO
    isplitr; · iapply hO; iexact HL
    iexact Hat
  iintro ⟨HO, Hat, -, Hp⟩
  ihave Hp := (Entails.of_eq (rest_dma m c hs)) $$ Hp
  rw [wp_ret]; imodintro
  iapply Hk
  isplitl [HO]
  · isplitr; · iexact HR
    isplitr; · iexact HL
    iexists _; iexact HO
  isplitl [Hat]; · iexact Hat
  iexact Hp

/-- A local copy: the source's share, the destination and the token for the credit. -/
theorem copy_rule {s : DmaSem sig} {R : Role} (hs : role s = R) {sp sp' : Space} {sh : Shape} {e : EltTy}
    {src : Memref sig .tc sp sh e} {dst : Memref sig .tc sp' sh e} {hsrc : src.view.WordExact} {hdst : dst.view.WordExact}
    {hsem : DmaTarget.Typed (nD := nD) sp (SemLoc.dma s) (.here (p := (.tc : Proc τ)) dst)}
    (hn : dst.view.dmaCredit = amt R) {O : CellTallies nD τ sig Unit} (q : PosShare TreeShare)
    (fs : Buf (Elt F) (src.view.loc (c : Thread nD τ))) (fd G : Buf (Elt F) (dst.view.loc (c : Thread nD τ)))
    (hG : dst.view.read (Elt F) G = src.view.read (Elt F) fs)
    (hpay : iprop((dst.view.loc (c : Thread nD τ) ↦[dst.view.set]{fullShare} G) ∗ (src.view.loc (c : Thread nD τ) ↦[src.view.set]{q} fs)) ⊢ pay m c R)
    (Q : PUnit → sProp 𝕄) :
    iprop(carry m K c O ∗ (src.view.loc (c : Thread nD τ) ↦[src.view.set]{q} fs) ∗ (dst.view.loc (c : Thread nD τ) ↦[dst.view.set]{fullShare} fd)
        ∗ dutyTok ER (cel c (.dma s)) 0 false ∗ ((carry m K c O ∗ cred (tallyAt (cel c (.dma s)) () (amt R))) -∗ Q ⟨⟩))
      ⊢ WP c (Prog.lift (.enqueueDma src (.here dst) (.dma s) hsrc hdst hsem)) Q := by
  unfold carry
  iintro ⟨⟨#HR, #HL, HO⟩, Hs, Hd, Ht, Hk⟩
  simp only [Prog.lift]
  iapply (Rounds.wp_copy_pointsTo Variants.none ER (Rd m) (c : Thread nD τ) none (κ := K (c, .dma s)) (r := 0) (d := false) (fs := fs) (fd := fd) (q := q)
      (mem_duties_dma m c s) () (amt R) hn (amount_dma m c hs false)
      (by rw [payload_dma m c hs, ← hG, write_read_eq]; exact hpay)) $$ [Hs Hd Ht]
  · isplitr; · iapply (inv_at m K c (.dma s)); iexact HR
    isplitl [Hs]; · iexact Hs
    isplitl [Hd]; · iexact Hd
    isplitl [Ht]; · iexact Ht
    iapply (reached_at m K c (.dma s)); iexact HR
  iintro Hc
  rw [wp_ret]; imodintro
  iapply Hk
  isplitl [HO]
  · isplitr; · iexact HR
    isplitr; · iexact HL
    iexact HO
  iexact Hc

/-- A send to device `c'`: the source's share, the destination on `c'` and both tokens for the credit, and one debt less. -/
theorem send_rule {s t : DmaSem sig} {R R' : Role} (hs : role s = R) (ht : role t = R') {sp sp' : Space} {sh : Shape} {e : EltTy} {c' : Dev nD}
    {src : Memref sig .tc sp sh e} {dst : Memref sig .tc sp' sh e} {hsc : dst.view.ref.isScScratch = false} {hsrc : src.view.WordExact} {hdst : dst.view.WordExact}
    {hsem : DmaTarget.Typed sp (SemLoc.dma t) (.remote (p := (.tc : Proc τ)) (Dev.tc c' : Thread nD τ) dst (.dma s) hsc)}
    (hn : dst.view.dmaCredit = amt R) (hR : amt R' = amt R) {O₀ O : CellTallies nD τ sig Unit} (hO : O₀ = O + tallyAt (cel c' (.dma t)) () (amt R))
    (q : PosShare TreeShare)
    (fs : Buf (Elt F) (src.view.loc (c : Thread nD τ))) (fd G : Buf (Elt F) (dst.view.loc (c' : Thread nD τ)))
    (hG : dst.view.read (Elt F) G = src.view.read (Elt F) fs)
    (hpay : (src.view.loc (c : Thread nD τ) ↦[src.view.set]{q} fs) ⊢ pay m c R)
    (hpay' : (dst.view.loc (c' : Thread nD τ) ↦[dst.view.set]{fullShare} G) ⊢ pay m c' R')
    (Q : PUnit → sProp 𝕄) :
    iprop(carry m K c O₀ ∗ (src.view.loc (c : Thread nD τ) ↦[src.view.set]{q} fs) ∗ (dst.view.loc (c' : Thread nD τ) ↦[dst.view.set]{fullShare} fd)
        ∗ dutyTok ER (cel c (.dma s)) 0 false ∗ dutyTok ER (cel c' (.dma t)) 0 false
        ∗ ((carry m K c O ∗ cred (tallyAt (cel c (.dma s)) () (amt R))) -∗ Q ⟨⟩))
      ⊢ WP c (Prog.lift (.enqueueDma src (.remote (Dev.tc c') dst (.dma s) hsc) (.dma t) hsrc hdst hsem)) Q := by
  unfold carry
  iintro ⟨⟨#HR, #HL, ⟨%W, HO⟩⟩, Hs, Hd, Ht, Ht', Hk⟩
  simp only [Prog.lift]
  iapply (Rounds.wp_send_pointsTo Variants.none ER (Rd m) (c : Thread nD τ) none (κ₁ := K (c, .dma s)) (κ₂ := K (c', .dma t))
      (r₁ := 0) (r₂ := 0) (d₁ := false) (d₂ := false) (fs := fs) (fd := fd) (q := q)
      (mem_duties_dma m c s) (mem_duties_dma m c' t) () () (amt R) hn (amount_dma m c hs false) ((amount_dma m c' ht false).trans hR) O hO (W := W)
      (by rw [payload_dma m c hs]; exact hpay)
      (by rw [payload_dma m c' ht, ← hG, write_read_eq]; exact hpay')) $$ [HO Hs Hd Ht Ht']
  · isplitr; · iapply (inv_at m K c (.dma s)); iexact HR
    isplitr; · iapply (inv_at m K c' (.dma t)); iexact HR
    isplitl [Hs]; · iexact Hs
    isplitl [Hd]; · iexact Hd
    isplitl [HO]; · iexact HO
    isplitl [Ht]; · iexact Ht
    isplitr; · iapply (reached_at m K c (.dma s)); iexact HR
    isplitl [Ht']; · iexact Ht'
    iapply (reached_at m K c' (.dma t)); iexact HR
  iintro ⟨Hc, HO⟩
  rw [wp_ret]; imodintro
  iapply Hk
  isplitl [HO]
  · isplitr; · iexact HR
    isplitr; · iexact HL
    iexists W; iexact HO
  iexact Hc

/-- A load through a rectangle of rows held: it reads them. -/
theorem load_rule {cs : CoreSpace} {sh : Shape} {e : EltTy} {v : Memref sig .tc cs sh e} {r : Rect sh} {hl : v.view.LoadsAt r.toLoadRect} {q : PosShare TreeShare}
    (f : Buf (Elt F) (v.view.loc (c : Thread nD τ))) (S : Finset (Idx (v.view.loc (c : Thread nD τ)))) (hS : (v.access r).set ⊆ S) (Q : (r.shape.Idx → Elt F e) → sProp 𝕄) :
    iprop((v.view.loc (c : Thread nD τ) ↦[S]{q} f) ∗ ((v.view.loc (c : Thread nD τ) ↦[S]{q} f) -∗ Q (v.view.readAt (Elt F) r.toLoadRect f)))
      ⊢ WP c (Prog.lift (.load v r.toLoadRect hl)) Q := by
  iintro ⟨H, Hk⟩
  simp only [Prog.lift]
  iapply (wp_load Variants.none (c : Thread nD τ) none Set.univ (m := v) (by rwa [View.set_slice] at hS)) $$ H
  iintro H
  rw [wp_ret]; imodintro
  iapply Hk; iexact H

/-- A store through a rectangle of rows held: they hold what is stored. -/
theorem store_rule {cs : CoreSpace} {sh : Shape} {e : EltTy} {v : Memref sig .tc cs sh e} {r : Rect sh} {w : r.shape.Idx → Elt F e}
    {hx : (v.access r).Stores Finset.univ} {hm : (Finset.univ : Finset r.shape.Idx) = Finset.univ ∨ ∀ a, r.stride a = 1}
    (f G : Buf (Elt F) ((v.access r).loc (c : Thread nD τ))) (hG : (v.access r).read (Elt F) G = w) (Q : PUnit → sProp 𝕄) :
    iprop(((v.access r).loc (c : Thread nD τ) ↦[(v.access r).set]{fullShare} f) ∗ (((v.access r).loc (c : Thread nD τ) ↦[(v.access r).set]{fullShare} G) -∗ Q ⟨⟩))
      ⊢ WP c (Prog.lift (.store v r w Finset.univ hx hm)) Q := by
  subst hG
  iintro ⟨H, Hk⟩
  simp only [Prog.lift]
  iapply (wp_store Variants.none (c : Thread nD τ) none Set.univ (m := v) (r := r) (Mk := Finset.univ) (S := (v.access r).set) (Finset.Subset.refl _)) $$ H
  rw [write_read_eq]
  iintro H
  rw [wp_ret]; imodintro
  iapply Hk; iexact H

/-- A phase of eight: a rule for each chunk makes the rule for the phase, `A k` what chunk `k` takes, `B k` what it leaves,
    `R k` what passes from chunk to chunk. -/
theorem each8_rule (f : Fin 8 → P F) (A B : Fin 8 → sProp 𝕄) (R : ℕ → sProp 𝕄)
    (h : ∀ (k : Fin 8) (Q : PUnit → sProp 𝕄), iprop(R k.val ∗ A k ∗ ((R (k.val + 1) ∗ B k) -∗ Q ⟨⟩)) ⊢ WP c (f k) Q) (Q : PUnit → sProp 𝕄) :
    iprop(R 0 ∗ bigSep Finset.univ A ∗ ((R 8 ∗ bigSep Finset.univ B) -∗ Q ⟨⟩)) ⊢ WP c (each8 f) Q := by
  have e (Φ : Fin 8 → sProp 𝕄) : bigSep Finset.univ Φ = iprop(Φ 0 ∗ Φ 1 ∗ Φ 2 ∗ Φ 3 ∗ Φ 4 ∗ Φ 5 ∗ Φ 6 ∗ Φ 7) :=
    bigSep_univ_eq_bigSepL [0, 1, 2, 3, 4, 5, 6, 7] (by decide) (by decide) Φ
  have h' (k : Fin 8) (n n' : ℕ) (hn : k.val = n) (hn' : n + 1 = n') (Q : PUnit → sProp 𝕄) :
      iprop(R n ∗ A k ∗ ((R n' ∗ B k) -∗ Q ⟨⟩)) ⊢ WP c (f k) Q := by subst hn; subst hn'; exact h k Q
  rw [e A, e B]
  unfold each8
  iintro ⟨HR, ⟨H0, H1, H2, H3, H4, H5, H6, H7⟩, Hk⟩
  simp only [WP, wp_bind]
  iapply (h' 0 0 1 rfl rfl); isplitl [HR]; · iexact HR
  isplitl [H0]; · iexact H0
  iintro ⟨HR, H0⟩
  iapply (h' 1 1 2 rfl rfl); isplitl [HR]; · iexact HR
  isplitl [H1]; · iexact H1
  iintro ⟨HR, H1⟩
  iapply (h' 2 2 3 rfl rfl); isplitl [HR]; · iexact HR
  isplitl [H2]; · iexact H2
  iintro ⟨HR, H2⟩
  iapply (h' 3 3 4 rfl rfl); isplitl [HR]; · iexact HR
  isplitl [H3]; · iexact H3
  iintro ⟨HR, H3⟩
  iapply (h' 4 4 5 rfl rfl); isplitl [HR]; · iexact HR
  isplitl [H4]; · iexact H4
  iintro ⟨HR, H4⟩
  iapply (h' 5 5 6 rfl rfl); isplitl [HR]; · iexact HR
  isplitl [H5]; · iexact H5
  iintro ⟨HR, H5⟩
  iapply (h' 6 6 7 rfl rfl); isplitl [HR]; · iexact HR
  isplitl [H6]; · iexact H6
  iintro ⟨HR, H6⟩
  iapply (h' 7 7 8 rfl rfl); isplitl [HR]; · iexact HR
  isplitl [H7]; · iexact H7
  iintro ⟨HR, H7⟩
  iapply Hk
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Gather

end
-- ==== Proof.Phases.lean ====
/-
A rule for each step of the kernel: what chunk `k` of a phase takes and what it leaves.
-/
module

public import proofs.«01_k».proof.Proof.Rules

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The ghost state of a cell, by what it is -/

/-- Device `c`'s token for a DMA cell. -/
abbrev tok (c : Dev nD) (s : DmaSem sig) : sProp 𝕄 := dutyTok ER (cel c (.dma s)) 0 false
/-- Device `c`'s position on a cell: round `r`. -/
abbrev pos (c : Dev nD) (r : ℕ) (s : SemLoc sig) : sProp 𝕄 := atPos ER (cel c s) r ∅ 0
/-- Device `c`'s credit on a DMA cell. -/
abbrev crd (c : Dev nD) (s : DmaSem sig) (n : ℕ) : sProp 𝕄 := cred (tallyAt (cel c (.dma s)) () n)

variable (K : Dev nD × SemLoc sig → ℕ) (c : Dev nD)

/-! ## Loading -/

/-- What the load of chunk `k` takes: the argument's rows, the rows in VMEM and the token. -/
def ldA (k : Fin 8) : sProp 𝕄 :=
  iprop(xAt c (xC c k).view.set fullShare (X m c) ∗ (∃ f, xvAt (F := F) c (xvC c k).view.set fullShare f) ∗ tok c (inS k.castSucc))

/-- Starting the load of a chunk: its rows and token go to the copy, and a credit comes back. -/
theorem ldStart_rule (O : CellTallies nD τ sig Unit) (k : Fin 8) (Q : PUnit → sProp 𝕄) :
    iprop(carry m K c O ∗ ldA m c k ∗ ((carry m K c O ∗ crd c (inS k.castSucc) NA) -∗ Q ⟨⟩)) ⊢ WP c (ldStart c k) Q := by
  unfold ldA ldStart
  iintro ⟨HO, ⟨Hx, ⟨%f, Hv⟩, Ht⟩, Hk⟩
  iapply (copy_rule m K c (role_in k) (src := xC c k) (dst := xvC c k) (cr_xvC c k) fullShare (X m c) f (X m c) rfl (Entails.refl _))
  isplitl [HO]; · iexact HO
  isplitl [Hx]; · iexact Hx
  isplitl [Hv]; · iexact Hv
  isplitl [Ht]; · iexact Ht
  iexact Hk

/-- Starting the load of the kept half. -/
theorem ldKeep_rule (O : CellTallies nD τ sig Unit) (f : (⟨2, ![1024, 512]⟩ : Shape).Idx → Elt F .f32) (Q : PUnit → sProp 𝕄) :
    iprop(carry m K c O ∗ xAt c (xK c).view.set fullShare (X m c) ∗ xvAt c (xvK c).view.set fullShare f ∗ tok c (inS 8)
      ∗ ((carry m K c O ∗ crd c (inS 8) NK) -∗ Q ⟨⟩)) ⊢ WP c (ldKeep c) Q := by
  unfold ldKeep
  iintro ⟨HO, Hx, Hv, Ht, Hk⟩
  iapply (copy_rule m K c role_inK (src := xK c) (dst := xvK c) (cr_xvK c) fullShare (X m c) f (X m c) rfl (Entails.refl _))
  isplitl [HO]; · iexact HO
  isplitl [Hx]; · iexact Hx
  isplitl [Hv]; · iexact Hv
  isplitl [Ht]; · iexact Ht
  iexact Hk

/-! ## Casting and sending along x -/

/-- A chunk's store covers that chunk of the cast block. -/
theorem accC_set (k : Fin 8) : (svM.access (rC c k)).set = (svC c k).view.set := (View.set_slice_whole _ _).trans ((rC_set c k).trans (svC_set c k).symm)
/-- A chunk's load covers that chunk in VMEM. -/
theorem accCx_set (k : Fin 8) : (xvM.access (rC c k)).set = (xvC c k).view.set := (View.set_slice_whole _ _).trans ((rC_set c k).trans (xvC_set c k).symm)
/-- The kept half's load covers the kept half in VMEM. -/
theorem accKx_set : (xvM.access (rK c)).set = (xvK c).view.set := (View.set_slice_whole _ _).trans ((rK_set c).trans (xvK_set c).symm)
/-- The kept half's store covers the same rows of the cast block. -/
theorem accK_set : (svM.access (rK c)).set = (xvK c).view.set := (View.set_slice_whole _ _).trans ((rK_set c).trans (xvK_set c).symm)

/-- What sending chunk `k` takes: the load's credit and position, the cast block's rows, the x neighbour's receive rows,
    and the tokens of the send and of the receive. -/
def sxA (k : Fin 8) : sProp 𝕄 :=
  iprop(crd c (inS k.castSucc) NA ∗ pos c 0 (.dma (inS k.castSucc)) ∗ (∃ f, svAt (F := F) c (svC c k).view.set fullShare f)
    ∗ (∃ f, rvAt (F := F) (xp c) (rvC k).view.set fullShare f) ∗ tok c (s1S k) ∗ tok (xp c) (r1S k))
/-- What it leaves: the loaded rows, the load's cell past its round, half of the cast rows, and the send's credit. -/
def sxB (k : Fin 8) : sProp 𝕄 :=
  iprop(xAt c (xC c k).view.set fullShare (X m c) ∗ xvAt c (xvC c k).view.set fullShare (X m c) ∗ pos c 1 (.dma (inS k.castSucc))
    ∗ svAt c (svC c k).view.set fullShare.right (SV m c) ∗ crd c (s1S k) NC)

/-- Waiting for a chunk's load, casting the chunk and sending it along x: one chunk less is owed to the x neighbour. -/
theorem sendX_rule (n' : ℕ) (k : Fin 8) (Q : PUnit → sProp 𝕄) :
    iprop(carry m K c (D1 c k.val + D2 c n') ∗ sxA c k ∗ ((carry m K c (D1 c (k.val + 1) + D2 c n') ∗ sxB m c k) -∗ Q ⟨⟩)) ⊢ WP c (sendX c k) Q := by
  unfold sxA sxB sendX
  iintro ⟨HO, ⟨Hc, Hat, ⟨%f, Hsv⟩, ⟨%g, Hrv⟩, Ht, Ht'⟩, Hk⟩
  simp only [WP, wp_bind]
  iapply (wait_rule m K c (role_in k) (cr_xvC c k) (mayWait_both c _ (by rw [show lvS (.dma (inS k.castSucc)) = 0 from congrArg lvR (role_in k)]; decide) _ _))
  isplitl [HO]; · iexact HO
  isplitl [Hc]; · iexact Hc
  isplitl [Hat]; · iexact Hat
  iintro ⟨HO, Hat, Hp⟩
  unfold pay
  icases Hp with ⟨Hv, Hx⟩
  iapply (load_rule c (v := xvM) (X m c) (xvC c k).view.set (Finset.subset_of_eq (accCx_set c k)))
  isplitl [Hv]; · iexact Hv
  iintro Hv
  iapply (load_rule c (v := svM) f (svC c k).view.set (Finset.subset_of_eq (accC_set c k)))
  isplitl [Hsv]; · iexact Hsv
  iintro Hsv
  iapply (store_rule c (v := svM) (r := rC c k) f (SV m c) (cast_reads m c k))
  rw [accC_set]
  isplitl [Hsv]; · iexact Hsv
  iintro Hsv
  ihave Hsv := (pointsTo_share (PosShare.mem_left_op_right fullShare)).1 $$ Hsv
  icases Hsv with ⟨Hl, Hr⟩
  iapply (send_rule m K c (role_s1 k) (role_r1 k) (c' := nxC c) (src := svC c k) (dst := rvC k) (cr_rvC k) rfl
    (O₀ := D1 c k.val + D2 c n') (O := D1 c (k.val + 1) + D2 c n') (by rw [nxC_eq, D1_step]; exact add_right_comm _ _ _)
    fullShare.left (SV m c) g (RV m (nxC c)) (by rw [nxC_eq]; exact send_reads m c k) (Entails.refl _) (Entails.refl _))
  isplitl [HO]; · iexact HO
  isplitl [Hl]; · iexact Hl
  rw [nxC_eq]
  isplitl [Hrv]; · iexact Hrv
  isplitl [Ht]; · iexact Ht
  isplitl [Ht']; · iexact Ht'
  iintro ⟨HO, Hc⟩
  iapply Hk
  isplitl [HO]; · iexact HO
  isplitl [Hx]; · iexact Hx
  isplitl [Hv]; · iexact Hv
  isplitl [Hat]; · iexact Hat
  isplitl [Hr]; · iexact Hr
  iexact Hc

/-! ## Keeping and storing the own rows -/

omit [FloatOps F] in
/-- Elements cut into eight pieces and one more. -/
theorem split9 {ℓ : Loc nD τ sig} (q : PosShare TreeShare) (f : Buf (Elt F) ℓ) (A A' : Fin 8 → Finset (Idx ℓ)) (B B' S : Finset (Idx ℓ))
    (hA : ∀ k, A k = A' k) (hB : B = B') (hd : ∀ k k', k ≠ k' → Disjoint (A' k) (A' k')) (hd' : ∀ k, Disjoint (A' k) B')
    (hU : (Finset.univ.biUnion A') ∪ B' = S) :
    (ℓ ↦[S]{q} f : sProp 𝕄) = iprop((bigSep Finset.univ fun k => ℓ ↦[A k]{q} f) ∗ ℓ ↦[B]{q} f) := by
  obtain rfl : A = A' := funext hA
  subst hB hU
  have hD : Disjoint (Finset.univ.biUnion A) B := (Finset.disjoint_biUnion_left Finset.univ A B).mpr fun k _ => hd' k
  have h := pointsTo_union (q := q) (f := f) (ℓ := ℓ) (Ix := Unit) (Name := ℕ) (U := UU) (Lvl := ℕ) hD
  rw [← pointsTo_biUnion Finset.univ A (fun k _ k' _ h => hd k k' h)]
  exact Entails.antisymm h.1 h.2

omit [FloatOps F] in
/-- Three things held, in either grouping. -/
theorem sep_three (A B C : sProp 𝕄) : iprop((A ∗ B) ∗ C) = iprop(A ∗ B ∗ C) := by
  have h : iprop((A ∗ B) ∗ C) ⊢ iprop(A ∗ B ∗ C) := by
    iintro ⟨⟨H1, H2⟩, H3⟩
    isplitl [H1]; · iexact H1
    isplitl [H2]; · iexact H2
    iexact H3
  have h' : iprop(A ∗ B ∗ C) ⊢ iprop((A ∗ B) ∗ C) := by
    iintro ⟨H1, H2, H3⟩
    isplitl [H1 H2]
    · isplitl [H1]; · iexact H1
      iexact H2
    iexact H3
  exact Entails.antisymm h h'

/-- The argument's block: the eight sent chunks and the kept half. -/
theorem x_split (q : PosShare TreeShare) (f : (⟨2, ![1024, 512]⟩ : Shape).Idx → Elt F .f32) :
    (xAt c Finset.univ q f : sProp 𝕄) = iprop((bigSep Finset.univ fun k => xAt c (xC c k).view.set q f) ∗ xAt c (xK c).view.set q f) :=
  split9 (ℓ := xM.view.loc (c : Thread nD τ)) q f _ _ _ _ Finset.univ (xC_set c) (xK_set c) (fun k k' h => chunks_disjoint k k' h)
    (fun k => block_disjoint c k) (block_cover c)
/-- The block in VMEM: the eight sent chunks and the kept half. -/
theorem xv_split (q : PosShare TreeShare) (f : (⟨2, ![1024, 512]⟩ : Shape).Idx → Elt F .f32) :
    (xvAt c Finset.univ q f : sProp 𝕄) = iprop((bigSep Finset.univ fun k => xvAt c (xvC c k).view.set q f) ∗ xvAt c (xvK c).view.set q f) :=
  split9 (ℓ := xvM.view.loc (c : Thread nD τ)) q f _ _ _ _ Finset.univ (xvC_set c) (xvK_set c) (fun k k' h => chunks_disjoint k k' h)
    (fun k => block_disjoint c k) (block_cover c)
/-- The cast block: the eight sent chunks and the kept half. -/
theorem sv_split (q : PosShare TreeShare) (f : (⟨2, ![1024, 512]⟩ : Shape).Idx → Elt F .bf16) :
    (svAt c Finset.univ q f : sProp 𝕄) = iprop((bigSep Finset.univ fun k => svAt c (svC c k).view.set q f) ∗ svAt c (xvK c).view.set q f) :=
  split9 (ℓ := svM.view.loc (c : Thread nD τ)) q f _ _ _ _ Finset.univ (svC_set c) (xvK_set c) (fun k k' h => chunks_disjoint k k' h)
    (fun k => block_disjoint c k) (block_cover c)
/-- The receive buffer: its eight chunks. -/
theorem rv_split (q : PosShare TreeShare) (f : (⟨2, ![512, 512]⟩ : Shape).Idx → Elt F .bf16) :
    (rvAt c Finset.univ q f : sProp 𝕄) = bigSep Finset.univ fun k => rvAt c (rvC k).view.set q f := by
  have h := band_chunks 512 0
  simp only [Nat.zero_add] at h
  have hu : band 512 0 512 = Finset.univ := Finset.eq_univ_iff_forall.mpr fun i => mem_band.mpr ⟨Nat.zero_le _, (i 0).isLt⟩
  refine Eq.trans ?_ (pointsTo_biUnion (ℓ := rvM.view.loc (c : Thread nD τ)) Finset.univ (fun k => (rvC k).view.set) (fun k _ k' _ hk => ?_))
  · rw [show (fun k => (rvC k).view.set) = fun k : Fin 8 => band 512 (64 * k.val) 64 from funext rvC_set, h, hu]
  · rw [rvC_set, rvC_set]
    exact band_disjoint (by have : k.val ≠ k'.val := fun e => hk (Fin.ext e)
                            omega)
/-- The result: the rows from the x neighbour, the rows that come by the y neighbour, and the own rows. -/
theorem o_split (q : PosShare TreeShare) (f : (⟨2, ![2048, 512]⟩ : Shape).Idx → Elt F .bf16) :
    (oAt c Finset.univ q f : sProp 𝕄) = iprop((bigSep Finset.univ fun k => oAt c (oG1 c k).view.set q f)
      ∗ (bigSep Finset.univ fun k => oAt c (oG2 c k).view.set q f) ∗ oAt c (oOwn c).view.set q f) := by
  rw [← result_cover c, oOwn_set]
  rw [show (fun k => oAt c (oG1 c k).view.set q f : Fin 8 → sProp 𝕄) = fun k : Fin 8 => oAt c (band 2048 (g1 c + 64 * k.val) 64) q f from
      funext fun k => by rw [oG1_set'],
    show (fun k => oAt c (oG2 c k).view.set q f : Fin 8 → sProp 𝕄) = fun k : Fin 8 => oAt c (band 2048 (g2 c + 64 * k.val) 64) q f from
      funext fun k => by rw [oG2_set'],
    ← pointsTo_biUnion Finset.univ _ (fun k _ k' _ h => chunks_disjoint k k' h), ← pointsTo_biUnion Finset.univ _ (fun k _ k' _ h => chunks_disjoint k k' h),
    band_chunks, band_chunks]
  have h := pointsTo_union (q := q) (f := f) (ℓ := oM.view.loc (c : Thread nD τ)) (Ix := Unit) (Name := ℕ) (U := UU) (Lvl := ℕ) (result_disjoint c)
  have h' := pointsTo_union (q := q) (f := f) (ℓ := oM.view.loc (c : Thread nD τ)) (Ix := Unit) (Name := ℕ) (U := UU) (Lvl := ℕ) (forwarded_disjoint c)
  refine (Entails.antisymm h.1 h.2).trans ?_
  refine (congrArg (fun P : sProp 𝕄 => iprop(P ∗ oAt c (band 2048 (1024 * bk c) 1024) q f)) (Entails.antisymm h'.1 h'.2)).trans ?_
  exact sep_three _ _ _

/-- The kept half: cast, and the store of the own rows started from half of the cast block. -/
theorem keepOwn_rule (n : ℕ) (f : (⟨2, ![1024, 512]⟩ : Shape).Idx → Elt F .bf16) (g : (⟨2, ![2048, 512]⟩ : Shape).Idx → Elt F .bf16) (Q : PUnit → sProp 𝕄) :
    iprop(carry m K c (D2 c n) ∗ crd c (inS 8) NK ∗ pos c 0 (.dma (inS 8)) ∗ svAt c (xvK c).view.set fullShare f
        ∗ (bigSep Finset.univ fun k => svAt c (svC c k).view.set fullShare.right (SV m c)) ∗ oAt c (oOwn c).view.set fullShare g ∗ tok c (stS 8)
        ∗ ((carry m K c (D2 c n) ∗ xAt c (xK c).view.set fullShare (X m c) ∗ xvAt c (xvK c).view.set fullShare (X m c) ∗ pos c 1 (.dma (inS 8))
            ∗ svAt c (xvK c).view.set fullShare.left (SV m c) ∗ crd c (stS 8) NO) -∗ Q ⟨⟩))
      ⊢ WP c (keepOwn c) Q := by
  unfold keepOwn
  iintro ⟨HO, Hc, Hat, Hsv, Hsvs, Ho, Ht, Hk⟩
  simp only [WP, wp_bind]
  iapply (wait_rule m K c role_inK (cr_xvK c) (mayWait_y c _ (by rw [show lvS (.dma (inS 8)) = 0 from congrArg lvR role_inK]; decide) _))
  isplitl [HO]; · iexact HO
  isplitl [Hc]; · iexact Hc
  isplitl [Hat]; · iexact Hat
  iintro ⟨HO, Hat, Hp⟩
  unfold pay
  icases Hp with ⟨Hv, Hx⟩
  iapply (load_rule c (v := xvM) (X m c) (xvK c).view.set (Finset.subset_of_eq (accKx_set c)))
  isplitl [Hv]; · iexact Hv
  iintro Hv
  iapply (load_rule c (v := svM) f (xvK c).view.set (Finset.subset_of_eq (accK_set c)))
  isplitl [Hsv]; · iexact Hsv
  iintro Hsv
  iapply (store_rule c (v := svM) (r := rK c) f (SV m c) (castK_reads m c))
  rw [accK_set]
  isplitl [Hsv]; · iexact Hsv
  iintro Hsv
  ihave Hsv := (pointsTo_share (PosShare.mem_left_op_right fullShare)).1 $$ Hsv
  icases Hsv with ⟨Hl, Hr⟩
  ihave Hw := (Entails.of_eq (sv_split c fullShare.right (SV m c)).symm) $$ [Hsvs Hr]
  · isplitl [Hsvs]; · iexact Hsvs
    iexact Hr
  iapply (copy_rule m K c role_own (src := svM) (dst := oOwn c) (cr_oOwn c) fullShare.right (SV m c) g (OUT m c) (own_reads m c) (Entails.refl _))
  isplitl [HO]; · iexact HO
  isplitl [Hw]; · rw [show svM.view.set = Finset.univ from View.set_whole _]; iexact Hw
  isplitl [Ho]; · iexact Ho
  isplitl [Ht]; · iexact Ht
  iintro ⟨HO, Hc⟩
  iapply Hk
  isplitl [HO]; · iexact HO
  isplitl [Hx]; · iexact Hx
  isplitl [Hv]; · iexact Hv
  isplitl [Hat]; · iexact Hat
  isplitl [Hl]; · iexact Hl
  iexact Hc

/-! ## Receiving along x, forwarding along y -/

/-- What forwarding chunk `k` takes: the receive's credit and position, the y neighbour's rows and the device's own, and
    the tokens of the forward, of the neighbour's receive and of the store. -/
def fyA (k : Fin 8) : sProp 𝕄 :=
  iprop(crd c (r1S k) NC ∗ pos c 0 (.dma (r1S k)) ∗ (∃ f, oAt (F := F) (yp c) (oG1 c k).view.set fullShare f)
    ∗ (∃ f, oAt (F := F) c (oG1 c k).view.set fullShare f) ∗ tok c (s2S k) ∗ tok (yp c) (r2S k) ∗ tok c (stS k.castSucc))
/-- What it leaves: the receive's cell past its round, and the credits of the forward and of the store. -/
def fyB (k : Fin 8) : sProp 𝕄 := iprop(pos c 1 (.dma (r1S k)) ∗ crd c (s2S k) NC ∗ crd c (stS k.castSucc) NC)

/-- The forwarded rows, as the y neighbour's receive pays them. -/
theorem fwd_pays (k : Fin 8) :
    (oAt (nyC c) (oG1 c k).view.set fullShare (OUT m (nyC c)) : sProp 𝕄) ⊢ pay m (nyC c) (.r2 k) := by
  rw [nyC_eq, show pay m (yp c) (.r2 k) = oAt (yp c) (oG2 (yp c) k).view.set fullShare (OUT m (yp c)) from rfl, oG2_yp_set]

/-- Waiting for a chunk from the x neighbour, forwarding it along y and storing it: one chunk less is owed to the y neighbour. -/
theorem fwdY_rule (k : Fin 8) (Q : PUnit → sProp 𝕄) :
    iprop(carry m K c (D2 c k.val) ∗ fyA c k ∗ ((carry m K c (D2 c (k.val + 1)) ∗ fyB c k) -∗ Q ⟨⟩)) ⊢ WP c (fwdY c k) Q := by
  unfold fyA fyB fwdY
  iintro ⟨HO, ⟨Hc, Hat, ⟨%f, Hy⟩, ⟨%g, Ho⟩, Ht, Ht', Ht''⟩, Hk⟩
  simp only [WP, wp_bind]
  iapply (wait_rule m K c (role_r1 k) (cr_rvC k) (mayWait_y c _ (by rw [lv_r1]; decide) _))
  isplitl [HO]; · iexact HO
  isplitl [Hc]; · iexact Hc
  isplitl [Hat]; · iexact Hat
  iintro ⟨HO, Hat, Hp⟩
  ihave Hp := (Entails.of_eq (show pay m c (.r1 k) = rvAt c (rvC k).view.set fullShare (RV m c) from rfl)) $$ Hp
  ihave Hp := (pointsTo_share (PosShare.mem_left_op_right fullShare)).1 $$ Hp
  icases Hp with ⟨Hl, Hr⟩
  iapply (send_rule m K c (role_s2 k) (role_r2 k) (c' := nyC c) (src := rvC k) (dst := oG1 c k) (cr_oG1 c k) rfl
    (O₀ := D2 c k.val) (O := D2 c (k.val + 1)) (by rw [nyC_eq, D2_step]; rfl)
    fullShare.left (RV m c) f (OUT m (nyC c)) (by rw [nyC_eq]; exact y_reads m c k) (Entails.refl _)
    (fwd_pays m c k))
  isplitl [HO]; · iexact HO
  isplitl [Hl]; · iexact Hl
  rw [nyC_eq]
  isplitl [Hy]; · iexact Hy
  isplitl [Ht]; · iexact Ht
  isplitl [Ht']; · iexact Ht'
  iintro ⟨HO, Hc⟩
  iapply (copy_rule m K c (role_st k) (src := rvC k) (dst := oG1 c k) (cr_oG1 c k) fullShare.right (RV m c) g (OUT m c) (st_reads m c k) (Entails.refl _))
  isplitl [HO]; · iexact HO
  isplitl [Hr]; · iexact Hr
  isplitl [Ho]; · iexact Ho
  isplitl [Ht'']; · iexact Ht''
  iintro ⟨HO, Hc'⟩
  iapply Hk
  isplitl [HO]; · iexact HO
  isplitl [Hat]; · iexact Hat
  isplitl [Hc]; · iexact Hc
  iexact Hc'

/-! ## The waits at the end -/

/-- What a wait at the end takes: the credit and the position. -/
def wA (s : DmaSem sig) (n : ℕ) : sProp 𝕄 := iprop(crd (F := F) c s n ∗ pos c 0 (.dma s))
/-- What it leaves: the cell past its round, and the payload. -/
def wB (s : DmaSem sig) (R : Role) : sProp 𝕄 := iprop(pos c 1 (.dma s) ∗ pay m c R)

/-- A wait once nothing is owed. -/
theorem end_rule {s : DmaSem sig} {R : Role} (hs : role s = R) {sp sp' : Space} {sh sh' : Shape} {e e' : EltTy}
    {src : Memref sig .tc sp' sh' e'} {dst : Memref sig .tc sp sh e} {hsrc : src.view.WordExact} {hdst : dst.view.WordExact}
    (hn : dst.view.dmaCredit = amt R) (Q : PUnit → sProp 𝕄) :
    iprop(carry m K c 0 ∗ wA c s (amt R) ∗ ((carry m K c 0 ∗ wB m c s R) -∗ Q ⟨⟩))
      ⊢ WP c (Prog.lift (.waitDma2 s src dst hsrc hdst)) Q := by
  unfold wA wB
  iintro ⟨HO, ⟨Hc, Hat⟩, Hk⟩
  iapply (wait_rule m K c hs hn (mayWait_none c _))
  isplitl [HO]; · iexact HO
  isplitl [Hc]; · iexact Hc
  isplitl [Hat]; · iexact Hat
  iexact Hk

/-- Waiting for a chunk by the y neighbour. -/
theorem waitY_rule (k : Fin 8) (Q : PUnit → sProp 𝕄) :
    iprop(carry m K c 0 ∗ wA c (r2S k) NC ∗ ((carry m K c 0 ∗ wB m c (r2S k) (.r2 k)) -∗ Q ⟨⟩)) ⊢ WP c (waitY c k) Q :=
  end_rule m K c (role_r2 k) (cr_oG2 c k) Q
/-- Waiting for the store of the own rows. -/
theorem waitOwn_rule (Q : PUnit → sProp 𝕄) :
    iprop(carry m K c 0 ∗ wA c (stS 8) NO ∗ ((carry m K c 0 ∗ wB m c (stS 8) .own) -∗ Q ⟨⟩)) ⊢ WP c (waitOwn c) Q :=
  end_rule m K c role_own (cr_oOwn c) Q
/-- Waiting for the store of a received chunk. -/
theorem waitSt_rule (k : Fin 8) (Q : PUnit → sProp 𝕄) :
    iprop(carry m K c 0 ∗ wA c (stS k.castSucc) NC ∗ ((carry m K c 0 ∗ wB m c (stS k.castSucc) (.st k)) -∗ Q ⟨⟩)) ⊢ WP c (waitSt c k) Q :=
  end_rule m K c (role_st k) (cr_oG1 c k) Q
/-- Waiting until a chunk has been sent along x. -/
theorem waitSent1_rule (k : Fin 8) (Q : PUnit → sProp 𝕄) :
    iprop(carry m K c 0 ∗ wA c (s1S k) NC ∗ ((carry m K c 0 ∗ wB m c (s1S k) (.s1 k)) -∗ Q ⟨⟩)) ⊢ WP c (waitSent1 c k) Q :=
  end_rule m K c (role_s1 k) (cr_svC c k) Q
/-- Waiting until a chunk has been forwarded along y. -/
theorem waitSent2_rule (k : Fin 8) (Q : PUnit → sProp 𝕄) :
    iprop(carry m K c 0 ∗ wA c (s2S k) NC ∗ ((carry m K c 0 ∗ wB m c (s2S k) (.s2 k)) -∗ Q ⟨⟩)) ⊢ WP c (waitSent2 c k) Q :=
  end_rule m K c (role_s2 k) (cr_rvC k) Q

/-! ## The handshake -/

/-- The first signal: the x neighbour's barrier, with the loan of the receive buffer. -/
theorem signalX_rule (O : CellTallies nD τ sig Unit) (Q : PUnit → sProp 𝕄) :
    iprop(carry m K c (O + tallyAt (bar (xp c)) () 1) ∗ dutyTok ER (bar (xp c)) 0 false ∗ lendX c ∗ (carry m K c O -∗ Q ⟨⟩))
      ⊢ WP c (semSignalWord (nx c) barS 1#32) Q := by
  unfold carry
  iintro ⟨⟨#HR, #HL, ⟨%W, HO⟩⟩, Ht, Hp, Hk⟩
  rw [nx_eq]
  simp only [semSignalWord, Prog.lift]
  iapply (Rounds.wp_signal Variants.none ER (Rd m) (c : Thread nD τ) none (dst := (xp c : Thread nD τ)) (κ := K (xp c, .reg barS))
      (d := false) (mem_duties_bar m (xp c) false) ((amount_bar m (xp c) false).trans (by decide)) () O rfl) $$ [HO Ht Hp]
  · isplitr; · iapply (inv_at m K (xp c) (.reg barS)); iexact HR
    isplitl [HO]; · iexact HO
    isplitl [Ht]; · iexact Ht
    isplitl [Hp]; · rw [payload_bar_false, xp_xp]; iexact Hp
    iapply (reached_at m K (xp c) (.reg barS)); iexact HR
  iintro HO
  rw [wp_ret]; imodintro
  iapply Hk
  isplitr; · iexact HR
  isplitr; · iexact HL
  iexists W; iexact HO

/-- The second signal: the y neighbour's barrier, with the loan of the result's rows. -/
theorem signalY_rule (O : CellTallies nD τ sig Unit) (Q : PUnit → sProp 𝕄) :
    iprop(carry m K c (O + tallyAt (bar (yp c)) () 1) ∗ dutyTok ER (bar (yp c)) 0 true ∗ lendY c ∗ (carry m K c O -∗ Q ⟨⟩))
      ⊢ WP c (semSignalWord (ny c) barS 1#32) Q := by
  unfold carry
  iintro ⟨⟨#HR, #HL, ⟨%W, HO⟩⟩, Ht, Hp, Hk⟩
  rw [ny_eq]
  simp only [semSignalWord, Prog.lift]
  iapply (Rounds.wp_signal Variants.none ER (Rd m) (c : Thread nD τ) none (dst := (yp c : Thread nD τ)) (κ := K (yp c, .reg barS))
      (d := true) (mem_duties_bar m (yp c) true) ((amount_bar m (yp c) true).trans (by decide)) () O rfl) $$ [HO Ht Hp]
  · isplitr; · iapply (inv_at m K (yp c) (.reg barS)); iexact HR
    isplitl [HO]; · iexact HO
    isplitl [Ht]; · iexact Ht
    isplitl [Hp]; · rw [payload_bar_true, yp_yp]; iexact Hp
    iapply (reached_at m K (yp c) (.reg barS)); iexact HR
  iintro HO
  rw [wp_ret]; imodintro
  iapply Hk
  isplitr; · iexact HR
  isplitr; · iexact HL
  iexists W; iexact HO

/-- The barrier wait: both neighbours' loans. -/
theorem barrier_rule (Q : PUnit → sProp 𝕄) :
    iprop(carry m K c (D1 c 0 + D2 c 0) ∗ cred (tallyAt (bar c) () 2) ∗ pos c 0 (.reg barS)
        ∗ ((carry m K c (D1 c 0 + D2 c 0) ∗ pos c 1 (.reg barS) ∗ lendX (xp c) ∗ lendY (yp c)) -∗ Q ⟨⟩))
      ⊢ WP c (semWaitWord barS 2#32) Q := by
  unfold carry
  iintro ⟨⟨#HR, #HL, ⟨%W, HO⟩⟩, Hc, Hat, Hk⟩
  simp only [semWaitWord, Prog.lift]
  iapply (Rounds.wp_wait_rest_token Variants.none ER (Rd m) (c : Thread nD τ) none (κ := K (c, .reg barS))
      (wpE_semWait_eq Variants.none (c : Thread nD τ) none Set.univ) (Set.mem_univ _) () (O := D1 c 0 + D2 c 0) (W := W) (R := 0) (m := 0) (T := ∅)
      (by rw [expect_bar]; decide)) $$ [Hc HO Hat]
  · isplitr; · iapply (inv_at m K c (.reg barS)); iexact HR
    isplitl [Hc]; · iexact Hc
    isplitl [HO]; · iexact HO
    isplitr; · iapply (mayWait_both c (.reg barS) (by decide) 0 0); iexact HL
    iexact Hat
  iintro ⟨HO, Hat, -, Hp⟩
  ihave Hp := (Entails.of_eq (rest_bar m c)) $$ Hp
  rw [wp_ret]; imodintro
  iapply Hk
  isplitl [HO]
  · isplitr; · iexact HR
    isplitr; · iexact HL
    iexists _; iexact HO
  isplitl [Hat]; · iexact Hat
  iexact Hp

end Cert.KernelIdeal.Gather

end
-- ==== Proof.Body.lean ====
/-
The kernel's run on one device: from the device's ghost state and its buffers to the gathered result.
-/
module

public import proofs.«01_k».proof.Proof.Phases

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The semaphores of a device -/

/-- `Φ` of every semaphore of a device, family by family. -/
def semsOf (Φ : SemLoc sig → sProp 𝕄) : sProp 𝕄 :=
  iprop(Φ (.reg barS) ∗ (bigSep Finset.univ fun k : Fin 8 => Φ (.dma (inS k.castSucc))) ∗ Φ (.dma (inS 8))
    ∗ (bigSep Finset.univ fun k : Fin 8 => Φ (.dma (stS k.castSucc))) ∗ Φ (.dma (stS 8))
    ∗ (bigSep Finset.univ fun k : Fin 8 => Φ (.dma (s1S k))) ∗ (bigSep Finset.univ fun k : Fin 8 => Φ (.dma (r1S k)))
    ∗ (bigSep Finset.univ fun k : Fin 8 => Φ (.dma (s2S k))) ∗ (bigSep Finset.univ fun k : Fin 8 => Φ (.dma (r2S k))))

/-- A family of eight semaphores. -/
def fam (f : Fin 8 → DmaSem sig) (h : Function.Injective f) : Finset (SemLoc sig) :=
  Finset.univ.map ⟨fun k => .dma (f k), fun _ _ e => h (SemLoc.dma.inj e)⟩

/-- The loads' semaphores are distinct. -/
theorem in_inj : Function.Injective fun k : Fin 8 => inS k.castSucc := by decide
/-- The stores' semaphores are distinct. -/
theorem st_inj : Function.Injective fun k : Fin 8 => stS k.castSucc := by decide
/-- The send semaphores along x are distinct. -/
theorem s1_inj : Function.Injective fun k : Fin 8 => s1S k := by decide
/-- The receive semaphores along x are distinct. -/
theorem r1_inj : Function.Injective fun k : Fin 8 => r1S k := by decide
/-- The send semaphores along y are distinct. -/
theorem s2_inj : Function.Injective fun k : Fin 8 => s2S k := by decide
/-- The receive semaphores along y are distinct. -/
theorem r2_inj : Function.Injective fun k : Fin 8 => r2S k := by decide

set_option maxRecDepth 65536 in
/-- The semaphores of a device are these families. -/
theorem sems_univ : (Finset.univ : Finset (SemLoc sig)) = insert (.reg barS) (fam _ in_inj ∪ insert (.dma (inS 8)) (fam _ st_inj ∪ insert (.dma (stS 8))
    (fam _ s1_inj ∪ (fam _ r1_inj ∪ (fam _ s2_inj ∪ fam _ r2_inj))))) := by decide

omit [FloatOps F] in
/-- What is held over a family of semaphores is held over its eight chunks. -/
theorem bigSep_fam (f : Fin 8 → DmaSem sig) (h : Function.Injective f) (Φ : SemLoc sig → sProp 𝕄) :
    bigSep (fam f h) Φ = bigSep Finset.univ fun k => Φ (.dma (f k)) := by unfold fam; rw [bigSep_map]; rfl

omit [FloatOps F] in
set_option maxRecDepth 65536 in
/-- What is held over all semaphores of a device, family by family. -/
theorem sems_eq (Φ : SemLoc sig → sProp 𝕄) : bigSep Finset.univ Φ = semsOf Φ := by
  rw [sems_univ, bigSep_insert (by decide), bigSep_union (by decide), bigSep_insert (by decide), bigSep_union (by decide), bigSep_insert (by decide),
    bigSep_union (by decide), bigSep_union (by decide), bigSep_union (by decide), bigSep_fam, bigSep_fam, bigSep_fam, bigSep_fam, bigSep_fam, bigSep_fam]
  rfl

/-! ## What the phases take, put together chunk by chunk -/

variable (K : Dev nD × SemLoc sig → ℕ) (c : Dev nD)

/-- The tokens of the duties device `c` pays. -/
def payToks : sProp 𝕄 :=
  iprop(dutyTok ER (bar (xp c)) 0 false ∗ dutyTok ER (bar (yp c)) 0 true
    ∗ (bigSep Finset.univ fun k : Fin 8 => tok (F := F) c (inS k.castSucc)) ∗ tok c (inS 8)
    ∗ (bigSep Finset.univ fun k : Fin 8 => tok (F := F) c (stS k.castSucc)) ∗ tok c (stS 8)
    ∗ (bigSep Finset.univ fun k : Fin 8 => tok (F := F) c (s1S k)) ∗ (bigSep Finset.univ fun k : Fin 8 => tok (F := F) (xp c) (r1S k))
    ∗ (bigSep Finset.univ fun k : Fin 8 => tok (F := F) c (s2S k)) ∗ (bigSep Finset.univ fun k : Fin 8 => tok (F := F) (yp c) (r2S k)))

/-- The credits device `c` starts with: its barrier's two units and what its neighbours will send. -/
def credits : sProp 𝕄 :=
  iprop(cred (tallyAt (bar c) () 2) ∗ (bigSep Finset.univ fun k : Fin 8 => crd (F := F) c (r1S k) NC) ∗ (bigSep Finset.univ fun k : Fin 8 => crd (F := F) c (r2S k) NC))

/-- The three scratch buffers, at some contents. -/
def scratch : sProp 𝕄 :=
  iprop((∃ f, xvAt (F := F) c Finset.univ fullShare f) ∗ (∃ f, svAt (F := F) c Finset.univ fullShare f) ∗ (∃ f, rvAt (F := F) c Finset.univ fullShare f))

omit [FloatOps F] in
/-- Three families joined chunk by chunk. -/
theorem zip3 {A B C D : Fin 8 → sProp 𝕄} (h : ∀ k, iprop(A k ∗ B k ∗ C k) ⊢ D k) :
    iprop(bigSep Finset.univ A ∗ bigSep Finset.univ B ∗ bigSep Finset.univ C) ⊢ bigSep Finset.univ D := by
  rw [← bigSep_sep', ← bigSep_sep']; exact bigSep_mono fun k _ => h k

omit [FloatOps F] in
/-- Six families joined chunk by chunk. -/
theorem zip6 {A B C D E G H : Fin 8 → sProp 𝕄} (h : ∀ k, iprop(A k ∗ B k ∗ C k ∗ D k ∗ E k ∗ G k) ⊢ H k) :
    iprop(bigSep Finset.univ A ∗ bigSep Finset.univ B ∗ bigSep Finset.univ C ∗ bigSep Finset.univ D ∗ bigSep Finset.univ E ∗ bigSep Finset.univ G)
      ⊢ bigSep Finset.univ H := by
  rw [← bigSep_sep', ← bigSep_sep', ← bigSep_sep', ← bigSep_sep', ← bigSep_sep']; exact bigSep_mono fun k _ => h k
omit [FloatOps F] in
/-- Seven families joined chunk by chunk. -/
theorem zip7 {A B C D E G H I : Fin 8 → sProp 𝕄} (h : ∀ k, iprop(A k ∗ B k ∗ C k ∗ D k ∗ E k ∗ G k ∗ H k) ⊢ I k) :
    iprop(bigSep Finset.univ A ∗ bigSep Finset.univ B ∗ bigSep Finset.univ C ∗ bigSep Finset.univ D ∗ bigSep Finset.univ E ∗ bigSep Finset.univ G
      ∗ bigSep Finset.univ H) ⊢ bigSep Finset.univ I := by
  rw [← bigSep_sep']; exact zip6 h

/-- What the eight loads take, from its three families. -/
theorem ldA_intro (f : (⟨2, ![1024, 512]⟩ : Shape).Idx → Elt F .f32) :
    iprop((bigSep Finset.univ fun k => xAt c (xC c k).view.set fullShare (X m c)) ∗ (bigSep Finset.univ fun k => xvAt c (xvC c k).view.set fullShare f)
      ∗ (bigSep Finset.univ fun k : Fin 8 => tok c (inS k.castSucc))) ⊢ bigSep Finset.univ (ldA m c) :=
  zip3 fun k => by
    unfold ldA
    iintro ⟨H1, H2, H3⟩
    isplitl [H1]; · iexact H1
    isplitl [H2]; · iexists f; iexact H2
    iexact H3

/-- What the eight sends along x take, from its six families. -/
theorem sxA_intro (f : (⟨2, ![1024, 512]⟩ : Shape).Idx → Elt F .bf16) (g : (⟨2, ![512, 512]⟩ : Shape).Idx → Elt F .bf16) :
    iprop((bigSep Finset.univ fun k : Fin 8 => crd c (inS k.castSucc) NA) ∗ (bigSep Finset.univ fun k : Fin 8 => pos c 0 (.dma (inS k.castSucc)))
      ∗ (bigSep Finset.univ fun k => svAt c (svC c k).view.set fullShare f) ∗ (bigSep Finset.univ fun k => rvAt (xp c) (rvC k).view.set fullShare g)
      ∗ (bigSep Finset.univ fun k : Fin 8 => tok c (s1S k)) ∗ (bigSep Finset.univ fun k : Fin 8 => tok (xp c) (r1S k))) ⊢ bigSep Finset.univ (sxA (F := F) c) :=
  zip6 fun k => by
    unfold sxA
    iintro ⟨H1, H2, H3, H4, H5, H6⟩
    isplitl [H1]; · iexact H1
    isplitl [H2]; · iexact H2
    isplitl [H3]; · iexists f; iexact H3
    isplitl [H4]; · iexists g; iexact H4
    isplitl [H5]; · iexact H5
    iexact H6

/-- What the eight forwards along y take, from its seven families. -/
theorem fyA_intro (f g : (⟨2, ![2048, 512]⟩ : Shape).Idx → Elt F .bf16) :
    iprop((bigSep Finset.univ fun k : Fin 8 => crd c (r1S k) NC) ∗ (bigSep Finset.univ fun k : Fin 8 => pos c 0 (.dma (r1S k)))
      ∗ (bigSep Finset.univ fun k => oAt (yp c) (oG1 c k).view.set fullShare f) ∗ (bigSep Finset.univ fun k => oAt c (oG1 c k).view.set fullShare g)
      ∗ (bigSep Finset.univ fun k : Fin 8 => tok c (s2S k)) ∗ (bigSep Finset.univ fun k : Fin 8 => tok (yp c) (r2S k))
      ∗ (bigSep Finset.univ fun k : Fin 8 => tok c (stS k.castSucc))) ⊢ bigSep Finset.univ (fyA (F := F) c) :=
  zip7 fun k => by
    unfold fyA
    iintro ⟨H1, H2, H3, H4, H5, H6, H7⟩
    isplitl [H1]; · iexact H1
    isplitl [H2]; · iexact H2
    isplitl [H3]; · iexists f; iexact H3
    isplitl [H4]; · iexists g; iexact H4
    isplitl [H5]; · iexact H5
    isplitl [H6]; · iexact H6
    iexact H7

omit [FloatOps F] in
/-- What eight waits at the end take: their credits and their positions. -/
theorem wA_eq (s : Fin 8 → DmaSem sig) (n : ℕ) :
    iprop((bigSep Finset.univ fun k => crd c (s k) n) ∗ bigSep Finset.univ fun k => pos c 0 (.dma (s k))) = (bigSep Finset.univ fun k => wA (F := F) c (s k) n) :=
  (bigSep_sep' Finset.univ (fun k => crd (F := F) c (s k) n) (fun k => pos c 0 (.dma (s k)))).symm
/-- What eight waits at the end leave: their cells past the round and their payloads. -/
theorem wB_eq (s : Fin 8 → DmaSem sig) (R : Fin 8 → Role) :
    (bigSep Finset.univ fun k => wB m c (s k) (R k)) = iprop((bigSep Finset.univ fun k => pos c 1 (.dma (s k))) ∗ bigSep Finset.univ fun k => pay m c (R k)) :=
  bigSep_sep' Finset.univ (fun k => pos (F := F) c 1 (.dma (s k))) (fun k => pay m c (R k))
/-- What the eight sends along x leave, as its five families. -/
theorem sxB_eq : bigSep Finset.univ (sxB m c) = iprop((bigSep Finset.univ fun k => xAt c (xC c k).view.set fullShare (X m c))
    ∗ (bigSep Finset.univ fun k => xvAt c (xvC c k).view.set fullShare (X m c)) ∗ (bigSep Finset.univ fun k : Fin 8 => pos c 1 (.dma (inS k.castSucc)))
    ∗ (bigSep Finset.univ fun k => svAt c (svC c k).view.set fullShare.right (SV m c)) ∗ (bigSep Finset.univ fun k : Fin 8 => crd c (s1S k) NC)) := by
  rw [← bigSep_sep', ← bigSep_sep', ← bigSep_sep', ← bigSep_sep']; rfl
omit [FloatOps F] in
/-- What the eight forwards along y leave, as its three families. -/
theorem fyB_eq : bigSep Finset.univ (fyB (F := F) c) = iprop((bigSep Finset.univ fun k : Fin 8 => pos c 1 (.dma (r1S k)))
    ∗ (bigSep Finset.univ fun k : Fin 8 => crd c (s2S k) NC) ∗ (bigSep Finset.univ fun k : Fin 8 => crd c (stS k.castSucc) NC)) := by
  rw [← bigSep_sep', ← bigSep_sep']; rfl
/-- The payloads of the eight stores: the result's rows filled, and the halves of the received chunks. -/
theorem pay_st : (bigSep Finset.univ fun k => pay m c (.st k)) = iprop((bigSep Finset.univ fun k => oAt c (oG1 c k).view.set fullShare (OUT m c))
    ∗ (bigSep Finset.univ fun k => rvAt c (rvC k).view.set fullShare.right (RV m c))) :=
  bigSep_sep' Finset.univ (fun k => oAt c (oG1 c k).view.set fullShare (OUT m c)) (fun k => rvAt c (rvC k).view.set fullShare.right (RV m c))

omit [FloatOps F] in
/-- The rows the y neighbour lends are those the device forwards to. -/
theorem lent_rows (f : (⟨2, ![2048, 512]⟩ : Shape).Idx → Elt F .bf16) :
    (bigSep Finset.univ fun k => oAt (yp c) (oG2 (yp c) k).view.set fullShare f)
      = bigSep Finset.univ fun k => oAt (F := F) (yp c) (oG1 c k).view.set fullShare f :=
  bigSep_congr fun k _ => by rw [oG2_yp_set]

omit [FloatOps F] in
/-- The two halves of a cast block put together. -/
theorem sv_join (f : (⟨2, ![1024, 512]⟩ : Shape).Idx → Elt F .bf16) :
    iprop(svAt c Finset.univ fullShare.left f ∗ svAt c Finset.univ fullShare.right f) ⊢ svAt (F := F) c Finset.univ fullShare f :=
  (pointsTo_share (PosShare.mem_left_op_right fullShare)).2
omit [FloatOps F] in
/-- The two halves of a receive buffer put together. -/
theorem rv_join (f : (⟨2, ![512, 512]⟩ : Shape).Idx → Elt F .bf16) :
    iprop(rvAt c Finset.univ fullShare.left f ∗ rvAt c Finset.univ fullShare.right f) ⊢ rvAt (F := F) c Finset.univ fullShare f :=
  (pointsTo_share (PosShare.mem_left_op_right fullShare)).2

/-! ## The run -/

/-- From the device's tokens, credits, positions and buffers, the kernel runs to the gathered result, every cell past its
    round. -/
theorem run_body (g : (⟨2, ![2048, 512]⟩ : Shape).Idx → Elt F .bf16) (Q : PUnit → sProp 𝕄) :
    iprop(carry m K c (O₀ c) ∗ payToks c ∗ credits c ∗ semsOf (pos c 0) ∗ xAt c Finset.univ fullShare (X m c) ∗ oAt c Finset.univ fullShare g ∗ scratch c
        ∗ ((carry m K c 0 ∗ semsOf (pos c 1) ∗ xAt c Finset.univ fullShare (X m c) ∗ oAt c Finset.univ fullShare (OUT m c) ∗ scratch c) -∗ Q ⟨⟩))
      ⊢ WP c (phases c) Q := by
  unfold payToks credits semsOf scratch phases
  iintro ⟨HO, ⟨TbX, TbY, Tin, TinK, Tst, TstO, Ts1, Tr1, Ts2, Tr2⟩, ⟨Cb, Cr1, Cr2⟩, ⟨Pb, Pin, PinK, Pst, PstO, Ps1, Pr1, Ps2, Pr2⟩,
    Hx, Ho, ⟨⟨%fv, Hv⟩, ⟨%fs, Hs⟩, Hr⟩, Hk⟩
  ihave Hx := (Entails.of_eq (x_split c fullShare (X m c))) $$ Hx
  icases Hx with ⟨HxC, HxK⟩
  ihave Hv := (Entails.of_eq (xv_split c fullShare fv)) $$ Hv
  icases Hv with ⟨HvC, HvK⟩
  ihave Hs := (Entails.of_eq (sv_split c fullShare fs)) $$ Hs
  icases Hs with ⟨HsC, HsK⟩
  ihave Ho := (Entails.of_eq (o_split c fullShare g)) $$ Ho
  icases Ho with ⟨Ho1, Ho2, HoO⟩
  simp only [WP, wp_bind]
  iapply (signalX_rule m K c (D1 c 0 + D2 c 0 + tallyAt (bar (yp c)) () 1))
  isplitl [HO]; · iexact HO
  isplitl [TbX]; · iexact TbX
  isplitl [Hr]; · unfold lendX; iexact Hr
  iintro HO
  iapply (signalY_rule m K c (D1 c 0 + D2 c 0))
  isplitl [HO]; · iexact HO
  isplitl [TbY]; · iexact TbY
  isplitl [Ho2]; · unfold lendY; iexists g; iexact Ho2
  iintro HO
  iapply (each8_rule c (ldStart c) (ldA m c) (fun k => crd c (inS k.castSucc) NA) (fun _ => carry m K c (D1 c 0 + D2 c 0)) (ldStart_rule m K c _))
  isplitl [HO]; · iexact HO
  isplitl [HxC HvC Tin]
  · iapply (ldA_intro m c fv)
    isplitl [HxC]; · iexact HxC
    isplitl [HvC]; · iexact HvC
    iexact Tin
  iintro ⟨HO, Cin⟩
  iapply (ldKeep_rule m K c _ fv)
  isplitl [HO]; · iexact HO
  isplitl [HxK]; · iexact HxK
  isplitl [HvK]; · iexact HvK
  isplitl [TinK]; · iexact TinK
  iintro ⟨HO, CinK⟩
  iapply (barrier_rule m K c)
  isplitl [HO]; · iexact HO
  isplitl [Cb]; · iexact Cb
  isplitl [Pb]; · iexact Pb
  unfold lendX lendY
  iintro ⟨HO, Pb, ⟨%fr, Hr⟩, ⟨%fo, Hy⟩⟩
  ihave Hr := (Entails.of_eq (rv_split (xp c) fullShare fr)) $$ Hr
  iapply (each8_rule c (sendX c) (sxA c) (sxB m c) (fun n => carry m K c (D1 c n + D2 c 0)) (sendX_rule m K c 0))
  isplitl [HO]; · iexact HO
  isplitl [Cin Pin HsC Hr Ts1 Tr1]
  · iapply (sxA_intro c fs fr)
    isplitl [Cin]; · iexact Cin
    isplitl [Pin]; · iexact Pin
    isplitl [HsC]; · iexact HsC
    isplitl [Hr]; · iexact Hr
    isplitl [Ts1]; · iexact Ts1
    iexact Tr1
  rw [sxB_eq]
  iintro ⟨HO, HxC, HvC, Pin, HsC, Cs1⟩
  ihave HO := (Entails.of_eq (show carry m K c (D1 c 8 + D2 c 0) = carry m K c (D2 c 0) by rw [D1_end, zero_add])) $$ HO
  iapply (keepOwn_rule m K c 0 fs g)
  isplitl [HO]; · iexact HO
  isplitl [CinK]; · iexact CinK
  isplitl [PinK]; · iexact PinK
  isplitl [HsK]; · iexact HsK
  isplitl [HsC]; · iexact HsC
  isplitl [HoO]; · iexact HoO
  isplitl [TstO]; · iexact TstO
  iintro ⟨HO, HxK, HvK, PinK, HsK, CstO⟩
  iapply (each8_rule c (fwdY c) (fyA c) (fyB c) (fun n => carry m K c (D2 c n)) (fwdY_rule m K c))
  isplitl [HO]; · iexact HO
  isplitl [Cr1 Pr1 Hy Ho1 Ts2 Tr2 Tst]
  · iapply (fyA_intro c fo g)
    isplitl [Cr1]; · iexact Cr1
    isplitl [Pr1]; · iexact Pr1
    isplitl [Hy]; · iapply (Entails.of_eq (lent_rows c fo)); iexact Hy
    isplitl [Ho1]; · iexact Ho1
    isplitl [Ts2]; · iexact Ts2
    isplitl [Tr2]; · iexact Tr2
    iexact Tst
  rw [fyB_eq]
  iintro ⟨HO, Pr1, Cs2, Cst⟩
  ihave HO := (Entails.of_eq (show carry m K c (D2 c 8) = carry m K c 0 by rw [D2_end])) $$ HO
  iapply (each8_rule c (waitY c) (fun k => wA c (r2S k) NC) (fun k => wB m c (r2S k) (.r2 k)) (fun _ => carry m K c 0) (waitY_rule m K c))
  isplitl [HO]; · iexact HO
  isplitl [Cr2 Pr2]
  · rw [← wA_eq]
    isplitl [Cr2]; · iexact Cr2
    iexact Pr2
  rw [wB_eq]
  iintro ⟨HO, Pr2, Ho2⟩
  iapply (waitOwn_rule m K c)
  isplitl [HO]; · iexact HO
  isplitl [CstO PstO]
  · unfold wA
    isplitl [CstO]; · iexact CstO
    iexact PstO
  unfold wB
  iintro ⟨HO, PstO, HpO⟩
  iapply (each8_rule c (waitSt c) (fun k => wA c (stS k.castSucc) NC) (fun k => wB m c (stS k.castSucc) (.st k)) (fun _ => carry m K c 0) (waitSt_rule m K c))
  isplitl [HO]; · iexact HO
  isplitl [Cst Pst]
  · rw [← wA_eq]
    isplitl [Cst]; · iexact Cst
    iexact Pst
  rw [wB_eq, pay_st]
  iintro ⟨HO, Pst, Ho1, HrR⟩
  iapply (each8_rule c (waitSent1 c) (fun k => wA c (s1S k) NC) (fun k => wB m c (s1S k) (.s1 k)) (fun _ => carry m K c 0) (waitSent1_rule m K c))
  isplitl [HO]; · iexact HO
  isplitl [Cs1 Ps1]
  · rw [← wA_eq]
    isplitl [Cs1]; · iexact Cs1
    iexact Ps1
  rw [wB_eq]
  iintro ⟨HO, Ps1, HsL⟩
  iapply (each8_rule c (waitSent2 c) (fun k => wA c (s2S k) NC) (fun k => wB m c (s2S k) (.s2 k)) (fun _ => carry m K c 0) (waitSent2_rule m K c))
  isplitl [HO]; · iexact HO
  isplitl [Cs2 Ps2]
  · rw [← wA_eq]
    isplitl [Cs2]; · iexact Cs2
    iexact Ps2
  rw [wB_eq]
  iintro ⟨HO, Ps2, HrL⟩
  ihave HpO := (Entails.of_eq (show pay m c .own = iprop(oAt c (oOwn c).view.set fullShare (OUT m c) ∗ svAt c svM.view.set fullShare.right (SV m c)) from rfl)) $$ HpO
  icases HpO with ⟨HoO, HsR⟩
  iapply Hk
  isplitl [HO]; · iexact HO
  isplitl [Pb Pin PinK Pst PstO Ps1 Pr1 Ps2 Pr2]
  · isplitl [Pb]; · iexact Pb
    isplitl [Pin]; · iexact Pin
    isplitl [PinK]; · iexact PinK
    isplitl [Pst]; · iexact Pst
    isplitl [PstO]; · iexact PstO
    isplitl [Ps1]; · iexact Ps1
    isplitl [Pr1]; · iexact Pr1
    isplitl [Ps2]; · iexact Ps2
    iexact Pr2
  isplitl [HxC HxK]
  · iapply (Entails.of_eq (x_split c fullShare (X m c)).symm)
    isplitl [HxC]; · iexact HxC
    iexact HxK
  isplitl [Ho1 Ho2 HoO]
  · iapply (Entails.of_eq (o_split c fullShare (OUT m c)).symm)
    isplitl [Ho1]; · iexact Ho1
    isplitl [Ho2]; · iexact Ho2
    iexact HoO
  isplitl [HvC HvK]
  · iexists (X m c)
    iapply (Entails.of_eq (xv_split c fullShare (X m c)).symm)
    isplitl [HvC]; · iexact HvC
    iexact HvK
  isplitl [HsL HsK HsR]
  · iexists (SV m c)
    iapply (sv_join c (SV m c))
    isplitl [HsL HsK]
    · iapply (Entails.of_eq (sv_split c fullShare.left (SV m c)).symm)
      isplitl [HsL]; · iexact HsL
      iexact HsK
    · rw [show svM.view.set = Finset.univ from View.set_whole _]; iexact HsR
  iexists (RV m c)
  iapply (rv_join c (RV m c))
  isplitl [HrL]
  · iapply (Entails.of_eq (rv_split c fullShare.left (RV m c)).symm); iexact HrL
  iapply (Entails.of_eq (rv_split c fullShare.right (RV m c)).symm); iexact HrR

end Cert.KernelIdeal.Gather

end
-- ==== Proof.Launch.lean ====
/-
The launch: the ghost state made and dealt, and every run of the kernel on the sixteen devices.
-/
module

public import proofs.«01_k».proof.Proof.Body
public import Idealize.ShloMosaic.Lib.Pipeline.CollectiveSegs

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before its program and after it -/

/-- A device's ghost state: at some names the records, its positions and its tokens. -/
def ghost (c : Dev nD) : sProp 𝕄 := iprop(∃ K, records m K ∗ semsOf (pos c 0) ∗ payToks c)
/-- What the launch gives a device. -/
def start (c : Dev nD) : sProp 𝕄 :=
  iprop(ghost m c ∗ credits c ∗ levAts L lv ∗ xAt c Finset.univ fullShare (X m c) ∗ oAt c Finset.univ fullShare (m ((c : Thread nD τ).loc main_v1)))
/-- Every counter of the device at zero, and the two arrays: the argument unchanged, the result gathered. -/
def finish (c : Dev nD) : sProp 𝕄 :=
  iprop((bigSep Finset.univ fun s => semVal (cel c s) 0) ∗ xAt c Finset.univ fullShare (X m c) ∗ oAt c Finset.univ fullShare (OUT m c))

/-- The pipeline's data: no window, the device's resources around its one point. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => iprop(start m c ∗ scratch c)
    | ⟨_ + 1, _⟩ => iprop(finish m c ∗ scratch c)
  q _ := fullShare
  owed t := match t with
    | ⟨0, _⟩ => O₀ c
    | ⟨_ + 1, _⟩ => 0

/-! ## The body -/

omit [FloatOps F] in
/-- What holds of every member of a family given a fact that may be used again and again. -/
theorem bigSep_given {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every cell past its round closes: its counter is zero. -/
theorem close_all (K : Dev nD × SemLoc sig → ℕ) (c : Dev nD) :
    iprop(records m K ∗ semsOf (pos c 1)) ⊢ |={Set.univ}=> (bigSep Finset.univ fun s => semVal (cel c s) 0 : sProp 𝕄) := by
  rw [← sems_eq]
  refine (bigSep_given (Ψ := fun s => iprop(|={Set.univ}=> semVal (cel c s) 0)) fun s _ => ?_).trans (bigSep_fupd _ _)
  refine (sep_mono_left (inv_at m K c s)).trans ?_
  exact Rounds.cell_close ER (Rd m) (Set.mem_univ (K (c, s))) (fun h => h) (R := 0 + 1) (duties_later m (cel c s))

set_option maxRecDepth 65536 in
/-- The kernel's program on one device, between what it is given and what it leaves. -/
theorem run_point (c : Dev nD) :
    iprop(iprop(start m c ∗ scratch c) ∗ (dats m 0 c).owesAt () t0_0.castSucc ∗ emp)
      ⊢ WP c (bodyAt0 t0_0) (fun _ => iprop(iprop(finish m c ∗ scratch c) ∗ (dats m 0 c).owesAt () t0_0.succ ∗ emp)) := by
  unfold Dat.owesAt Pipeline.owesWithin start ghost
  rw [body_eq, show (dats m 0 c).owed t0_0.castSucc = O₀ c from rfl, show (dats m 0 c).owed t0_0.succ = 0 from rfl, WP, wp_deviceId]
  iintro ⟨⟨⟨⟨%K, #HR, HP, HT⟩, HC, #HL, Hx, Ho⟩, Hs⟩, ⟨%W, -, HO⟩, -⟩
  iapply (wp_fupd _ _ _ _ _)
  iapply (run_body m K c (m ((c : Thread nD τ).loc main_v1)))
  isplitl [HO]
  · unfold carry
    isplitr; · iexact HR
    isplitr; · iexact HL
    iexists W; iexact HO
  isplitl [HT]; · iexact HT
  isplitl [HC]; · iexact HC
  isplitl [HP]; · iexact HP
  isplitl [Hx]; · iexact Hx
  isplitl [Ho]; · iexact Ho
  isplitl [Hs]; · iexact Hs
  unfold carry
  iintro ⟨⟨-, -, ⟨%W', HO⟩⟩, HP, Hx, Ho, Hs⟩
  imod (close_all m K c) $$ [HP] with Hz
  · isplitr; · iexact HR
    iexact HP
  imodintro
  unfold finish
  isplitl [Hz Hx Ho Hs]
  · isplitl [Hz Hx Ho]
    · isplitl [Hz]; · iexact Hz
      isplitl [Hx]; · iexact Hx
      iexact Ho
    iexact Hs
  isplitl [HO]
  · iexists W'
    isplitr; · ipureintro; exact fun _ _ => Or.inl trivial
    iexact HO
  iempintro

set_option maxRecDepth 65536 in
/-- The same, as the pipeline asks for it. -/
theorem body_obligation (c : Dev nD) : Pipeline.BodyObligation (dats m 0 c) (defs₀ (F := F)) Variants.none () Set.univ := fun t => by
  rw [fin_N0 t]
  exact run_point m c

/-! ## The launch's ghost state -/

/-- The kernel's own semaphores: every one that is not the runtime's. -/
abbrev osem : {s : SemLoc sig // s.isScoped .tc = true} → SemLoc sig := Subtype.val
/-- The kernel's own semaphores are scoped, and none is a window's: there is no window. -/
theorem ownSemFacts : Pipeline.OwnSemFacts cfg0.spec osem := ⟨fun k => k.2, Subtype.val_injective, fun _ w => w.elim0⟩

omit [FloatOps F] in
/-- A device's counters: the kernel's own and the runtime's. -/
theorem counters_eq (c : Dev nD) : (bigSep Finset.univ fun s => semVal (cel c s) 0 : sProp 𝕄)
    = iprop(Pipeline.ownSems0 (Ix := Unit) (Name := ℕ) (U := UU) (Lvl := ℕ) (Val := Elt F) (τ := τ) osem c ∗ unscopedSems0 c) := by
  unfold Pipeline.ownSems0 unscopedSems0
  rw [bigSep_subtype (fun s : SemLoc sig => s.isScoped .tc = true) (fun s => (semVal (cel c s) 0 : sProp 𝕄))]
  exact bigSep_filter_split _ _

/-- Different devices or semaphores are different cells. -/
theorem cell_injective : Function.Injective (fun g : Dev nD × SemLoc sig => cel g.1 g.2) := by
  rintro ⟨c, s⟩ ⟨c', s'⟩ h
  have h1 : c = c' := congrArg (fun g : GSem nD τ sig => g.1.1) h
  have h2 : s = s' := congrArg Prod.snd h
  rw [h1, h2]
/-- The cells of the schedule: every semaphore of every device. -/
def theCells : Finset (GSem nD τ sig) := Finset.univ.map ⟨_, cell_injective⟩
/-- Different cells or duties have different tokens. -/
theorem token_injective : Function.Injective (fun x : (Dev nD × SemLoc sig) × Bool => ((cel x.1.1 x.1.2, 0, x.2) : GSem nD τ sig × ℕ × Bool)) := by
  rintro ⟨g, b⟩ ⟨g', b'⟩ h
  have h1 : g = g' := cell_injective (congrArg Prod.fst h)
  have h2 : b = b' := congrArg (fun x : GSem nD τ sig × ℕ × Bool => x.2.2) h
  rw [h1, h2]
/-- The tokens of the schedule's first round. -/
def theTokens : Finset (GSem nD τ sig × ℕ × Bool) := Finset.univ.map ⟨_, token_injective⟩

/-- The launch's ghost element. -/
def u₀ : UU := (initOf (Pipeline.cells cfgs cellOf_inj) (Pipeline.launchToks cfgs cellOf_inj), initOf theCells theTokens)

/-- The tokens of device `c`'s own cells. -/
def ownToks (c : Dev nD) : sProp 𝕄 := iprop(semsOf (fun s => dutyTok ER (cel c s) 0 false) ∗ dutyTok ER (bar c) 0 true)
/-- What the launch element deals device `c`. -/
def dealt (c : Dev nD) : sProp 𝕄 :=
  iprop((bigSep Finset.univ fun s => roundState ER (Rd m) (cel c s) 0)
    ∗ ((bigSep Finset.univ fun s => atPos ER (cel c s) 0 ∅ 0) ∗ bigSep Finset.univ fun s => reached ER (cel c s) 0) ∗ ownToks c)

/-- Of the tokens made for a device's cells, those of the duties there are. -/
theorem own_tokens (c : Dev nD) :
    (bigSep Finset.univ fun s => bigSep Finset.univ fun b => dutyTok ER (cel c s) 0 b : sProp 𝕄) ⊢ ownToks c := by
  have e (s : SemLoc sig) : (bigSep Finset.univ fun b => dutyTok ER (cel c s) 0 b : sProp 𝕄) = iprop(dutyTok ER (cel c s) 0 false ∗ dutyTok ER (cel c s) 0 true) :=
    bigSep_univ_eq_bigSepL [false, true] (by decide) (by decide) _
  rw [bigSep_congr fun s _ => e s, bigSep_sep', sems_eq]
  unfold ownToks
  exact sep_mono_right (bigSep_elim (Finset.mem_univ (SemLoc.reg barS)))

/-- The launch element deals every device its cells' states, positions and tokens. -/
theorem fund_cells : BI.own (ER (initOf theCells theTokens)) ⊢ (|==> bigSep Finset.univ (dealt m) : sProp 𝕄) := by
  have hX (Φ : GSem nD τ sig → sProp 𝕄) : bigSep theCells Φ = bigSep Finset.univ fun c : Dev nD => bigSep Finset.univ fun s => Φ (cel c s) := by
    unfold theCells; rw [bigSep_map, bigSep_univ_prod]; rfl
  have hT : bigSep theTokens (fun x => (dutyTok ER x.1 x.2.1 x.2.2 : sProp 𝕄)) ⊢ bigSep Finset.univ fun c : Dev nD => ownToks c := by
    unfold theTokens; rw [bigSep_map, bigSep_univ_prod, bigSep_univ_prod]
    exact bigSep_mono fun c _ => own_tokens c
  iintro HX
  imod (Rounds.fund ER (Rd m) theCells theTokens) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold dealt; simp only [bigSep_sep']
  isplitl [Hst]; · iexact Hst
  isplitl [Hat Hr]
  · isplitl [Hat] <;> iassumption
  iexact Htok

/-- One device's invariants made. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun s => iprop(∃ κ : ℕ, cellInv ER (Rd m) κ (cel c s)))
          ∗ ((bigSep Finset.univ fun s => atPos ER (cel c s) 0 ∅ 0) ∗ bigSep Finset.univ fun s => reached ER (cel c s) 0) ∗ ownToks c) := by
  unfold dealt
  iintro ⟨Hos, Hus, Hst, Hat, Htok⟩
  ihave Hv := (Entails.of_eq (counters_eq (F := F) c).symm) $$ [Hos Hus]
  · isplitl [Hos] <;> iassumption
  imod (show iprop((bigSep Finset.univ fun s => semVal (cel c s) 0) ∗ bigSep Finset.univ fun s => roundState ER (Rd m) (cel c s) 0)
      ⊢ (|={Set.univ}=> bigSep Finset.univ fun s => iprop(∃ κ : ℕ, cellInv ER (Rd m) κ (cel c s)) : sProp 𝕄) from by
        rw [← bigSep_sep']
        exact (bigSep_mono fun s _ => (Rounds.body_intro ER (Rd m) (cel c s)).trans inv_alloc).trans (bigSep_fupd _ _)) $$ [Hv Hst] with Hinv
  · isplitl [Hv] <;> iassumption
  imodintro
  isplitl [Hinv]; · iexact Hinv
  isplitl [Hat]; · iexact Hat
  iexact Htok

/-- The x neighbour, as a permutation of the devices. -/
def xE : Dev nD ≃ Dev nD := ⟨xp, xp, xp_xp, xp_xp⟩
/-- The y neighbour, as a permutation of the devices. -/
def yE : Dev nD ≃ Dev nD := ⟨yp, yp, yp_yp, yp_yp⟩

/-- The tokens dealt to those who pay with them: a barrier's and a receive's to the neighbour. -/
theorem toks_around : (bigSep Finset.univ fun c : Dev nD => (ownToks c : sProp 𝕄)) ⊢ bigSep Finset.univ fun c : Dev nD => payToks c := by
  unfold ownToks payToks semsOf
  simp only [bigSep_sep' (Finset.univ : Finset (Dev nD))]
  rw [bigSep_univ_equiv xE (fun c : Dev nD => (dutyTok ER (bar c) 0 false : sProp 𝕄)),
    bigSep_univ_equiv yE (fun c : Dev nD => (dutyTok ER (bar c) 0 true : sProp 𝕄)),
    bigSep_univ_equiv xE (fun c : Dev nD => (bigSep Finset.univ fun k : Fin 8 => dutyTok ER (cel c (.dma (r1S k))) 0 false : sProp 𝕄)),
    bigSep_univ_equiv yE (fun c : Dev nD => (bigSep Finset.univ fun k : Fin 8 => dutyTok ER (cel c (.dma (r2S k))) 0 false : sProp 𝕄))]
  iintro ⟨⟨H1, H2, H3, H4, H5, H6, H7, H8, H9⟩, H10⟩
  isplitl [H1]; · iexact H1
  isplitl [H10]; · iexact H10
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- A device's share, from the records, its positions and the tokens of the duties it pays. -/
theorem ghost_intro (K : Dev nD × SemLoc sig → ℕ) (c : Dev nD) :
    iprop(records m K ∗ ((bigSep Finset.univ fun s => atPos ER (cel c s) 0 ∅ 0) ∗ payToks c)) ⊢ ghost m c := by
  unfold ghost
  iintro ⟨HR, HP, HT⟩
  iexists K
  isplitl [HR]; · iexact HR
  isplitl [HP]; · iapply (Entails.of_eq (sems_eq (F := F) (pos c 0))); iexact HP
  iexact HT

/-- The invariants gathered into records that all devices share, and the tokens passed to the devices that pay. -/
theorem regroup :
    (bigSep Finset.univ fun c : Dev nD => iprop((bigSep Finset.univ fun s => iprop(∃ κ : ℕ, cellInv ER (Rd m) κ (cel c s)))
          ∗ ((bigSep Finset.univ fun s => atPos ER (cel c s) 0 ∅ 0) ∗ bigSep Finset.univ fun s => reached ER (cel c s) 0) ∗ ownToks c) : sProp 𝕄)
      ⊢ bigSep Finset.univ (ghost m) := by
  rw [bigSep_sep', bigSep_sep', bigSep_sep', ← bigSep_univ_prod (fun g : Dev nD × SemLoc sig => iprop(∃ κ : ℕ, cellInv ER (Rd m) κ (cel g.1 g.2))),
    ← bigSep_univ_prod (fun g : Dev nD × SemLoc sig => (reached ER (cel g.1 g.2) 0 : sProp 𝕄))]
  iintro ⟨HI, ⟨Hat, #HR⟩, Htok⟩
  ihave HK := (BI.bigSep_exists_pi Finset.univ (fun (g : Dev nD × SemLoc sig) (κ : ℕ) => (cellInv ER (Rd m) κ (cel g.1 g.2) : sProp 𝕄))) $$ HI
  icases HK with ⟨%K, #HI⟩
  ihave Htk := (toks_around (F := F)) $$ Htok
  iapply (bigSep_given (R := records m K) fun c _ => ghost_intro m K c)
  isplitr
  · unfold records; isplitl; · iexact HI
    iexact HR
  · rw [bigSep_sep']
    isplitl [Hat]; · iexact Hat
    iexact Htk

/-- The invariants made and the tokens dealt, on all devices at once. -/
theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (ghost m) :=
  ((bigSep_mono fun c _ => core_alloc m c).trans (bigSep_fupd _ _)).trans (BI.fupd_mono (regroup m))

/-! ## The launch's credits -/

/-- A family of eight debts to a neighbour is that neighbour's eight credits. -/
theorem cred_family (s : Fin 8 → DmaSem sig) (e : Dev nD ≃ Dev nD) (he : ∀ c, e (e c) = c) (c : Dev nD) :
    (Pipeline.launchCred (fun d => ∑ k ∈ Finset.univ.filter (fun k : Fin 8 => 0 ≤ k.val), tallyAt (cel (e d) (.dma (s k))) () NC) c : sProp 𝕄)
      ⊢ bigSep Finset.univ fun k => crd c (s k) NC := by
  rw [Pipeline.launchCred_sum, Finset.filter_true_of_mem fun k _ => Nat.zero_le _]
  exact bigSep_mono fun k _ => Pipeline.launchCred_tallyAt (.dma (s k)) e e he he () NC c

/-- What the others owe a device at launch is its credits. -/
theorem credits_intro (c : Dev nD) : (Pipeline.launchCred O₀ c : sProp 𝕄) ⊢ credits c := by
  have hx : (Pipeline.launchCred (fun d => tallyAt (bar (xp d)) () 1) c : sProp 𝕄) ⊢ cred (tallyAt (bar c) () 1) :=
    Pipeline.launchCred_tallyAt (.reg barS) xp xp xp_xp xp_xp () 1 c
  have hy : (Pipeline.launchCred (fun d => tallyAt (bar (yp d)) () 1) c : sProp 𝕄) ⊢ cred (tallyAt (bar c) () 1) :=
    Pipeline.launchCred_tallyAt (.reg barS) yp yp yp_yp yp_yp () 1 c
  have h1 : (Pipeline.launchCred (fun d => D1 d 0) c : sProp 𝕄) ⊢ bigSep Finset.univ fun k => crd c (r1S k) NC := cred_family r1S xE xp_xp c
  have h2 : (Pipeline.launchCred (fun d => D2 d 0) c : sProp 𝕄) ⊢ bigSep Finset.univ fun k => crd c (r2S k) NC := cred_family r2S yE yp_yp c
  rw [show (O₀ : Dev nD → CellTallies nD τ sig Unit) = fun d => (D1 d 0 + D2 d 0 + tallyAt (bar (yp d)) () 1) + tallyAt (bar (xp d)) () 1 from rfl,
    Pipeline.launchCred_add (fun d => D1 d 0 + D2 d 0 + tallyAt (bar (yp d)) () 1) (fun d => tallyAt (bar (xp d)) () 1),
    Pipeline.launchCred_add (fun d => D1 d 0 + D2 d 0) (fun d => tallyAt (bar (yp d)) () 1),
    Pipeline.launchCred_add (fun d => D1 d 0) (fun d => D2 d 0)]
  unfold credits
  iintro ⟨⟨⟨H1, H2⟩, Hy⟩, Hx⟩
  ihave Hx := hx $$ Hx
  ihave Hy := hy $$ Hy
  ihave H1 := h1 $$ H1
  ihave H2 := h2 $$ H2
  isplitl [Hx Hy]
  · rw [show (tallyAt (bar c) () 2 : CellTallies nD τ sig Unit) = tallyAt (bar c) () 1 + tallyAt (bar c) () 1 from (tallyAt_add _ _ 1 1).symm]
    iapply (cred_add _ _).2
    isplitl [Hx] <;> iassumption
  isplitl [H1] <;> iassumption

/-! ## The run -/

/-- What the launch gives a device outside the region is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨⟨Hx, Ho⟩, Hlev, Hcr, -, HG⟩
  ihave Hc := (credits_intro (F := F) c) $$ Hcr
  imodintro
  unfold start
  isplitl
  · isplitl [HG]; · iexact HG
    isplitl [Hc]; · iexact Hc
    isplitl [Hlev]; · iexact Hlev
    isplitl [Hx]; · iexact Hx
    iexact Ho
  · iempintro

/-- At the region's entry the scratch buffers are added. -/
theorem entry_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, H⟩
  isplitl [Hs]; · iexact Hs
  iexact H

/-- What the launch reads at the end: the runtime's counter and the two arrays. -/
def seen (c : Dev nD) : sProp 𝕄 :=
  iprop(unscopedSems0 c ∗ xAt c Finset.univ fullShare (X m c) ∗ oAt c Finset.univ fullShare (OUT m c))

/-- At the region's exit a device gives up its scratch buffers and its own counters at zero, and keeps what is read at the end. -/
theorem exit_intro (c : Dev nD) :
    (dats m 0 c).Φ (Fin.last cfg0.N) ⊢ iprop(seen m c ∗ Pipeline.ownSems0 osem c ∗ Pipeline.scopedRest cfg0.spec c) := by
  rw [show (dats m 0 c).Φ (Fin.last cfg0.N) = iprop(finish m c ∗ scratch c) from rfl, scopedRest0_eq]
  unfold finish seen scratch
  rw [counters_eq]
  iintro ⟨⟨⟨Hos, Hus⟩, Hx, Ho⟩, Hs⟩
  isplitl [Hus Hx Ho]
  · isplitl [Hus]; · iexact Hus
    isplitl [Hx]; · iexact Hx
    iexact Ho
  isplitl [Hos]; · iexact Hos
  iexact Hs

/-- The region's own waits are allowed: it has no window, so there is none. -/
theorem waits (c : Dev nD) : (levAts L lv : sProp 𝕄) ⊢ Pipeline.cellsWaits cfgs (dats m) () 0 c :=
  Pipeline.cellsWaits_intro cfgs (dats m) () 0 c fun w s t => w.elim0

/-- What a final memory shows of device `c`: the runtime's counters at zero, the argument unchanged, the result gathered. -/
def Shows (c : Dev nD) (s : MemSt nD τ sig (Elt F)) : Prop :=
  (∀ sm : SemLoc sig, sm.isScoped .tc = false → s.sem ((c.tc : Thread nD τ), sm) = 0)
    ∧ s.mem ((c : Thread nD τ).loc main_arg0) = X m c ∧ s.mem ((c : Thread nD τ).loc main_v1) = OUT m c

/-- What a device keeps at the end shows in the final memory. -/
theorem seen_read (c : Dev nD) (s' : Phys nD τ sig (Elt F)) :
    iprop(seen m c ∗ emp ∗ SI s') ⊢ |={Set.univ}=> iprop(⌜Shows m c s'.mem⌝ ∗ SI s') := by
  unfold seen
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ ho⟩
  iexact HSI

set_option maxRecDepth 8000 in
/-- From any memory with zero counters, every weakly fair run of the kernel on the sixteen devices ends; at its end each
    device's argument is unchanged, its result is the gathered one and every counter is zero. -/
theorem run_main : θ_run defs (onTc (τ := τ) (main (F := F))) ⟨m, fun _ => 0, ρ⟩
    (fun r => (∀ c : Dev nD, r.2.mem ((c : Thread nD τ).loc main_arg0) = X m c ∧ r.2.mem ((c : Thread nD τ).loc main_v1) = OUT m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := seen m) (Z := fun _ => iprop(emp))
    (hX := start_intro m ρ) (hin := entry_intro m) (hout := exit_intro m)
    (QY := Shows m) (hY := seen_read m)
    (hQ := fun _ h hs => ⟨fun c => (h c).2.2.2, sem_eq_zero hs fun c => (h c).2.2.1⟩)

end Cert.KernelIdeal.Gather

end
-- ==== Proof.Value.lean ====
/-
The values: what the sixteen devices gather is the whole array, rounded to the narrow format, as the reference rounds it.

The two blocks of the whole array are the x coordinate's: a device's argument is the block of its x coordinate, whatever
its y and z. The kernel's result has, in each row, the element of some device that holds the row's block.
-/
module

public import proofs.«01_k».proof.Proof.Launch
public import proofs.«01_k».proof.Proof.Gen.ReferenceIdeal
public import proofs.«01_k».proof.ReferenceIdeal
public import Idealize.ShloMosaic.Lib.Layout
public import Idealize.ShloMosaic.Lib.Claim

@[expose] public section

noncomputable section

namespace Cert.KernelIdeal.Gather

open Idealize.ShloMosaic
open Idealize.ShloMosaic.TcCoe
open Idealize.SL.Sem
open Cert.KernelIdeal.Gen

variable {F : FTy → Type} [FloatOps F]

/-! ## Which device a row comes from -/

/-- The device a row of the result comes from has that row's block as its own: rows below 1024 come from a device of
    x coordinate 0, the others from one of x coordinate 1. -/
theorem bk_src (c : Dev nD) (r : ℕ) (hr : r < 2048) : bk (src c r) = r / 1024 := by
  have hc := bk_lt c
  unfold src
  split
  · next h => exact h.symm
  · split
    · rw [bk_xp]; omega
    · rw [bk_xp, bk_yp]; omega

/-! ## The layout -/

/-- Each device's part of the whole array `W`: the block of its x coordinate. -/
abbrev partOf {α : Type} (W : (⟨2, ![2048, 512]⟩ : Shape).Idx → α) (c : Dev nD) :
    (⟨2, ![1024, 512]⟩ : Shape).Idx → α :=
  Layout.blockN ⟨2, ![1024, 512]⟩ ⟨2, ![2048, 512]⟩ (Layout.meshBlock [2, 2, 4] ![[0], []] c) W

/-- The block the layout gives a device along the rows is the one its x coordinate numbers. -/
theorem block_row (c : Dev nD) : Layout.meshLin [2, 2, 4] c.val [0] = bk c := by
  have h := bk_lt c
  show c.val / 8 % 2 * 1 + 0 = bk c
  unfold bk at h ⊢; omega

/-- Row `r % 1024`, column `j` of the part of a device that holds `r`'s block is row `r`, column `j` of the whole. -/
theorem part_row {α : Type} (W : (⟨2, ![2048, 512]⟩ : Shape).Idx → α) (d : Dev nD)
    (i : (⟨2, ![2048, 512]⟩ : Shape).Idx) (hd : bk d = (i 0).val / 1024) :
    partOf W d (cell ((i 0).val % 1024) (Nat.mod_lt _ (by decide)) (i 1)) = W i := by
  refine congrArg W (funext fun b => Fin.ext ?_)
  have hb := block_row d
  match b with
  | ⟨0, _⟩ =>
    show Layout.meshLin [2, 2, 4] d.val [0] * 1024 + (i 0).val % 1024 = (i 0).val
    rw [hb, hd]; omega
  | ⟨1, _⟩ =>
    show 0 * 512 + (i 1).val = (i 1).val
    omega

/-- Where every device's argument is its part of one array `W`, every device's result is `W` rounded. -/
theorem gathered (m : (ℓ : Loc nD τ sig) → Buf (Elt F) ℓ)
    (W : (⟨⟨2, ![2048, 512]⟩, .f32⟩ : BufTy).Contents (Elt F))
    (hW : ∀ c : Dev nD, X m c = partOf W c) (c : Dev nD) :
    OUT m c = truncf (F := F) (φ := .f32) .bf16 W bitsLt_bf16_f32 := by
  funext i
  have hi : (i 0).val < 2048 := (i 0).isLt
  show FloatOps.truncf (F := F) .bf16 bitsLt_bf16_f32 (X m (src c (i 0).val) (cell ((i 0).val % 1024) (Nat.mod_lt _ (by decide)) (i 1)))
    = FloatOps.truncf (F := F) .bf16 bitsLt_bf16_f32 (W i)
  rw [hW, part_row W _ i (bk_src c _ hi)]

end Cert.KernelIdeal.Gather

/-! ## The reference -/

namespace Cert.ReferenceIdeal.Whole

open Idealize.ShloMosaic Idealize.SL.Sem
open Cert.ReferenceIdeal Cert.ReferenceIdeal.Gen

variable {F : FTy → Type} [FloatOps F]

/-- The reference runs: its result is its argument rounded, its argument is unchanged, and every semaphore is at zero. -/
theorem run_ref (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v0)
          = truncf (F := F) (φ := .f32) .bf16 (m ((c.tc : Thread nD τ).loc main_arg0)) bitsLt_bf16_f32
        ∧ r.2.mem ((c.tc : Thread nD τ).loc main_arg0) = m ((c.tc : Thread nD τ).loc main_arg0))
      ∧ r.2.sem = fun _ => 0) := by
  hlo_run
  · exact fun _ => ⟨trivial, trivial⟩
  -- the reference has no semaphore
  · funext ⟨t, x⟩
    rcases t with ⟨d, k⟩
    rcases x with s | s <;> cases k <;> exact absurd s.isLt (Nat.not_lt_zero _)

/-- From a memory of the sixteen devices where each holds its part of the reference's argument, both programs run, and
    one array is the reference's result and every device's; the arguments of both are unchanged. -/
theorem agree (m : (ℓ : Loc Cert.KernelIdeal.nD Cert.KernelIdeal.τ Cert.KernelIdeal.sig) → Buf (Elt F) ℓ)
    (ρ : Dev Cert.KernelIdeal.nD → PrngReg) (m' : (ℓ : Loc nD τ sig) → Buf (Elt F) ℓ) (ρ' : Dev nD → PrngReg)
    (hx : ∀ c : Dev Cert.KernelIdeal.nD, Cert.KernelIdeal.Gather.X m c
      = Cert.KernelIdeal.Gather.partOf (m' (((0 : Dev nD).tc : Thread nD τ).loc main_arg0)) c) :
    ∃ v : Buf (Elt F) (((0 : Dev nD).tc : Thread nD τ).loc main_v0),
      θ_run (Cert.KernelIdeal.defs (F := F)) (onTc (τ := Cert.KernelIdeal.τ) (Cert.KernelIdeal.main (F := F)))
          ⟨m, fun _ => 0, ρ⟩ (fun r => ∀ c : Dev Cert.KernelIdeal.nD,
            r.2.mem ((c.tc : Thread Cert.KernelIdeal.nD Cert.KernelIdeal.τ).loc Cert.KernelIdeal.main_v1) = v
            ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))
      ∧ θ_run (defs (F := F)) (onTc (τ := τ) (main (F := F))) ⟨m', fun _ => 0, ρ'⟩ (fun r =>
          r.2.mem (((0 : Dev nD).tc : Thread nD τ).loc main_v0) = v
          ∧ r.2.mem (((0 : Dev nD).tc : Thread nD τ).loc main_arg0)
            = m' (((0 : Dev nD).tc : Thread nD τ).loc main_arg0)) :=
  ⟨truncf (F := F) (φ := .f32) .bf16 (m' (((0 : Dev nD).tc : Thread nD τ).loc main_arg0)) bitsLt_bf16_f32,
    θ_run_mono (Cert.KernelIdeal.Gather.run_main m ρ) fun r h c =>
      ⟨(h.1 c).2.trans (Cert.KernelIdeal.Gather.gathered m _ hx c), (h.1 c).1⟩,
    θ_run_mono (run_ref m' ρ') fun r h => h.1 0⟩

end Cert.ReferenceIdeal.Whole

end
-- ==== Proof.lean ====
/-
The claims: one kernel on sixteen devices and its reference, each run once for any floats and read here on the machine's
own numbers and over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem
open Cert.KernelIdeal.Gather Cert.ReferenceIdeal.Whole

/-- On the machine's own numbers the kernel runs, its argument is unchanged and every semaphore is at zero. The two
    printed kernels are one text, so the run proved of the one, at any floats, is a run of the other. -/
theorem frame_kernel : Cert.quiescent_Kernel := fun m ρ _ =>
  (θ_run Cert.KernelIdeal.defs _ _).mono (fun _ h => ⟨fun c => (h.1 c).1, h.2⟩) (run_main (F := Bits) m ρ)

/-- The kernel read over the extended reals runs, its argument is unchanged and every semaphore is at zero. -/
theorem frame_ideal : Cert.quiescent_KernelIdeal := fun m ρ _ =>
  (θ_run Cert.KernelIdeal.defs _ _).mono (fun _ h => ⟨fun c => (h.1 c).1, h.2⟩) (run_main (F := Ideal) m ρ)

/-- On the machine's own numbers the reference runs, its argument is unchanged and every semaphore is at zero. The two
    printed references are one text as well. -/
theorem frame_reference : Cert.quiescent_Reference := fun m ρ _ =>
  (θ_run Cert.ReferenceIdeal.defs _ _).mono (fun _ h => ⟨fun c => (h.1 c).2, h.2⟩) (run_ref (F := Bits) m ρ)

/-- The reference read over the extended reals runs, its argument is unchanged and every semaphore is at zero. -/
theorem frame_reference_ideal : Cert.quiescent_ReferenceIdeal := fun m ρ _ =>
  (θ_run Cert.ReferenceIdeal.defs _ _).mono (fun _ h => ⟨fun c => (h.1 c).2, h.2⟩) (run_ref (F := Ideal) m ρ)

/-- On the machine's own numbers every device ends with the reference's whole result, word for word. -/
theorem value_bits : Cert.bitexact_Kernel_Reference := fun m g m' g' _ hx => agree (F := Bits) m g m' g' hx

/-- Over the extended reals every device ends with the reference's whole result. -/
theorem value_ideal : Cert.algebraic_KernelIdeal_ReferenceIdeal := fun m g m' g' _ hx =>
  agree (F := Ideal) m g m' g' hx

/-- Every claim: the four frames, the idealization's (which rewrites nothing), and the value, on both kinds of floats. -/
theorem claim : Cert.Claim :=
  ⟨Cert.Kernel.Gen.facts, Cert.KernelIdeal.Gen.facts, Cert.Reference.Gen.facts, Cert.ReferenceIdeal.Gen.facts,
    frame_kernel, frame_ideal, frame_reference, frame_reference_ideal, trivial, value_bits, value_ideal⟩

end Cert.Proof

end
